-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v74) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v55) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Mix_MixIdeal : Prop :=
  IdealRules.named_const.Statement Cert.MixIdeal.κ "log2e" .f32 0x3FB8AA3B#32 (((Real.log 2)⁻¹ : ℝ) : EReal)

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v20_0)) (v1 : (c : Dev Cert.MixIdeal.nD) → Buf (Elt Ideal) ((c.tc : Thread Cert.MixIdeal.nD Cert.MixIdeal.τ).loc Cert.MixIdeal.main_v20_1)) (v2 : (c : Dev Cert.MixIdeal.nD) → Buf (Elt Ideal) ((c.tc : Thread Cert.MixIdeal.nD Cert.MixIdeal.τ).loc Cert.MixIdeal.main_v20_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20_0) = v0 c
          ∧ r.2.mem ((c.tc : Thread Cert.MixIdeal.nD Cert.MixIdeal.τ).loc Cert.MixIdeal.main_v20_1) = v1 c
          ∧ r.2.mem ((c.tc : Thread Cert.MixIdeal.nD Cert.MixIdeal.τ).loc Cert.MixIdeal.main_v20_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v11) = v0 c
          ∧ r.2.mem ((c.tc : Thread Cert.MixRefIdeal.nD Cert.MixRefIdeal.τ).loc Cert.MixRefIdeal.main_v12) = v1 c
          ∧ r.2.mem ((c.tc : Thread Cert.MixRefIdeal.nD Cert.MixRefIdeal.τ).loc Cert.MixRefIdeal.main_v14) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixRefIdeal (hMixRefIdeal := hMixRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Mix_MixIdeal
    ∧ algebraic_MixIdeal_MixRefIdeal (hMixIdeal := hMixIdeal) (hMixRefIdeal := hMixRefIdeal)
-- ==== Ffn.lean ====
abbrev S4x4096x1024 : Shape := ⟨3, ![4, 4096, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x1024x1024 : Shape := ⟨3, ![1, 1024, 1024]⟩
abbrev S8x2816 : Shape := ⟨2, ![8, 2816]⟩
abbrev S2x264x256 : Shape := ⟨3, ![2, 264, 256]⟩
abbrev S1x256x1024 : Shape := ⟨3, ![1, 256, 1024]⟩
abbrev S256x1024 : Shape := ⟨2, ![256, 1024]⟩
abbrev S1024x256 : Shape := ⟨2, ![1024, 256]⟩
abbrev S256x256 : Shape := ⟨2, ![256, 256]⟩
abbrev S8x256 : Shape := ⟨2, ![8, 256]⟩
abbrev S1x264x256 : Shape := ⟨3, ![1, 264, 256]⟩
abbrev S264x256 : Shape := ⟨2, ![264, 256]⟩
abbrev S1x256 : Shape := ⟨2, ![1, 256]⟩
abbrev S256 : Shape := ⟨1, ![256]⟩
abbrev S256x1 : Shape := ⟨2, ![256, 1]⟩

abbrev nBuf : Space → Nat
  | .hbm => 22
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S3x2816, .f32⟩
  | .hbm, ⟨13, _⟩ => ⟨S2816, .f32⟩
  | .hbm, ⟨14, _⟩ => ⟨S1x2816, .f32⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S8x2816, .f32⟩
  | .local _ .vmem, ⟨12, _⟩ => ⟨S2x264x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S4x4096x1024 : Shape := ⟨3, ![4, 4096, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x2816 : Shape := ⟨2, ![1024, 2816]⟩
abbrev S4x4096x2816 : Shape := ⟨3, ![4, 4096, 2816]⟩
abbrev S3x2816 : Shape := ⟨2, ![3, 2816]⟩
abbrev S2816 : Shape := ⟨1, ![2816]⟩
abbrev S_ : Shape := ⟨0, ![]⟩
abbrev S4x4098x2816 : Shape := ⟨3, ![4, 4098, 2816]⟩
abbrev S1x1x2816 : Shape := ⟨3, ![1, 1, 2816]⟩
abbrev S2816x1024 : Shape := ⟨2, ![2816, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x2816, .f32⟩
  | .hbm, ⟨9, _⟩ => ⟨S4x4096x2816, .f32⟩
  | .hbm, ⟨10, _⟩ => ⟨S3x2816, .f32⟩
  | .hbm, ⟨11, _⟩ => ⟨S2816, .f32⟩
  | .hbm, ⟨12, _⟩ => ⟨S_, .i32⟩
  | .hbm, ⟨13, _⟩ => ⟨S_, .f32⟩
  | .hbm, ⟨14, _⟩ => ⟨S4x4098x2816, .f32⟩
  | .hbm, ⟨15, _⟩ => ⟨S4x4096x2816, .f32⟩
  | .hbm, ⟨16, _⟩ => ⟨S1x2816, .f32⟩
  | .hbm, ⟨17, _⟩ => ⟨S2816, .f32⟩
  | .hbm, ⟨18, _⟩ => ⟨S1x1x2816, .f32⟩
  | .hbm, ⟨19, _⟩ => ⟨S4x4096x2816, .f32⟩
  | .hbm, ⟨20, _⟩ => ⟨S4x4096x2816, .f32⟩
  | .hbm, ⟨21, _⟩ => ⟨S4x4096x2816, .f32⟩
  | .hbm, ⟨22, _⟩ => ⟨S1x2816, .f32⟩
  | .hbm, ⟨23, _⟩ => ⟨S2816, .f32⟩
  | .hbm, ⟨24, _⟩ => ⟨S1x1x2816, .f32⟩
  | .hbm, ⟨25, _⟩ => ⟨S4x4096x2816, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S1x1x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S_, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S_, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S1024x2816, .f32⟩
  | .hbm, ⟨56, _⟩ => ⟨S4x4096x2816, .f32⟩
  | .hbm, ⟨57, _⟩ => ⟨S4x4096x2816, .f32⟩
  | .hbm, ⟨58, _⟩ => ⟨S2816x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1024, .f32⟩
  | .hbm, ⟨82, _⟩ => ⟨S4x4096x1024, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S1x1x1024, .f32⟩
  | .hbm, ⟨90, _⟩ => ⟨S4x4096x1024, .f32⟩
  | .hbm, ⟨91, _⟩ => ⟨S4x4096x1024, .f32⟩
  | .hbm, ⟨92, _⟩ => ⟨S1x1x1024, .f32⟩
  | .hbm, ⟨93, _⟩ => ⟨S4x4096x1024, .f32⟩
  | .hbm, ⟨94, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Merge.lean ====
abbrev S4x4096x512 : Shape := ⟨3, ![4, 4096, 512]⟩
abbrev S4x4096x1024 : Shape := ⟨3, ![4, 4096, 1024]⟩
abbrev S1x1024x5632 : Shape := ⟨3, ![1, 1024, 5632]⟩
abbrev S1x2048 : Shape := ⟨2, ![1, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S1024x2048 : Shape := ⟨2, ![1024, 2048]⟩
abbrev S16384x512 : Shape := ⟨2, ![16384, 512]⟩
abbrev S16384x1024 : Shape := ⟨2, ![16384, 1024]⟩
abbrev S512x1024 : Shape := ⟨2, ![512, 1024]⟩
abbrev S2048 : Shape := ⟨1, ![2048]⟩
abbrev S1024x1024 : Shape := ⟨2, ![1024, 1024]⟩
abbrev S1024 : Shape := ⟨1, ![1024]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 29
  | .vmem => 15
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S1x1024x5632, .f32⟩
  | .hbm, ⟨4, _⟩ => ⟨S1x2048, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S16384x512, .bf16⟩
  | .hbm, ⟨14, _⟩ => ⟨S16384x512, .bf16⟩
  | .hbm, ⟨15, _⟩ => ⟨S16384x1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S2048, .f32⟩
  | .hbm, ⟨21, _⟩ => ⟨S1x2048, .f32⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S512x1024, .bf16⟩
  | .local _ .vmem, ⟨7, _⟩ => ⟨S512x1024, .bf16⟩
  | .local _ .vmem, ⟨8, _⟩ => ⟨S1024x2048, .bf16⟩
  | .local _ .vmem, ⟨9, _⟩ => ⟨S1x2048, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S4x4096x512 : Shape := ⟨3, ![4, 4096, 512]⟩
abbrev S4x4096x1024 : Shape := ⟨3, ![4, 4096, 1024]⟩
abbrev S1x1024x5632 : Shape := ⟨3, ![1, 1024, 5632]⟩
abbrev S1x2048 : Shape := ⟨2, ![1, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1024x5632 : Shape := ⟨2, ![1024, 5632]⟩
abbrev S4x4096x5632 : Shape := ⟨3, ![4, 4096, 5632]⟩
abbrev S4x4096x2048 : Shape := ⟨3, ![4, 4096, 2048]⟩
abbrev S2048 : Shape := ⟨1, ![2048]⟩
abbrev S1x1x2048 : Shape := ⟨3, ![1, 1, 2048]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S1x1024x5632, .f32⟩
  | .hbm, ⟨4, _⟩ => ⟨S1x2048, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1024x5632, .f32⟩
  | .hbm, ⟨11, _⟩ => ⟨S4x4096x5632, .f32⟩
  | .hbm, ⟨12, _⟩ => ⟨S4x4096x2048, .f32⟩
  | .hbm, ⟨13, _⟩ => ⟨S2048, .f32⟩
  | .hbm, ⟨14, _⟩ => ⟨S1x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x1024, .f32⟩
  | .hbm, ⟨26, _⟩ => ⟨S4x4096x512, .f32⟩
  | .hbm, ⟨27, _⟩ => ⟨S512x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x512, .f32⟩
  | .hbm, ⟨32, _⟩ => ⟨S512x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1024, .f32⟩
  | .hbm, ⟨38, _⟩ => ⟨S4x4096x1024, .f32⟩
  | .hbm, ⟨39, _⟩ => ⟨S1024x1024, .f32⟩
  | .hbm, ⟨40, _⟩ => ⟨S4x4096x1024, .f32⟩
  | .hbm, ⟨41, _⟩ => ⟨S4x4096x1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S16384x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Mix.lean ====
abbrev S4x4096x1024 : Shape := ⟨3, ![4, 4096, 1024]⟩
abbrev S1x1024x5632 : Shape := ⟨3, ![1, 1024, 5632]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S1x1024x3584 : Shape := ⟨3, ![1, 1024, 3584]⟩
abbrev S1024x3584 : Shape := ⟨2, ![1024, 3584]⟩
abbrev S128 : Shape := ⟨1, ![128]⟩
abbrev S4x4096x512 : Shape := ⟨3, ![4, 4096, 512]⟩
abbrev S4x16x576x256 : Shape := ⟨4, ![4, 16, 576, 256]⟩
abbrev S1x1024x1024 : Shape := ⟨3, ![1, 1024, 1024]⟩
abbrev S1x1024x512 : Shape := ⟨3, ![1, 1024, 512]⟩
abbrev S1x4x576x256 : Shape := ⟨4, ![1, 4, 576, 256]⟩
abbrev S4x128x128 : Shape := ⟨3, ![4, 128, 128]⟩
abbrev S4x136x128 : Shape := ⟨3, ![4, 136, 128]⟩
abbrev S4x8x128 : Shape := ⟨3, ![4, 8, 128]⟩
abbrev S128x128 : Shape := ⟨2, ![128, 128]⟩
abbrev S1x256x1024 : Shape := ⟨3, ![1, 256, 1024]⟩
abbrev S256x1024 : Shape := ⟨2, ![256, 1024]⟩
abbrev S1024x512 : Shape := ⟨2, ![1024, 512]⟩
abbrev S256x512 : Shape := ⟨2, ![256, 512]⟩
abbrev S1x256x512 : Shape := ⟨3, ![1, 256, 512]⟩
abbrev S256x128 : Shape := ⟨2, ![256, 128]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S128x512 : Shape := ⟨2, ![128, 512]⟩
abbrev S1x128x128 : Shape := ⟨3, ![1, 128, 128]⟩
abbrev S64x128 : Shape := ⟨2, ![64, 128]⟩
abbrev S32x128 : Shape := ⟨2, ![32, 128]⟩
abbrev S16x128 : Shape := ⟨2, ![16, 128]⟩
abbrev S16x8x128 : Shape := ⟨3, ![16, 8, 128]⟩
abbrev S16x1x128 : Shape := ⟨3, ![16, 1, 128]⟩
abbrev S128x1 : Shape := ⟨2, ![128, 1]⟩

abbrev nBuf : Space → Nat
  | .hbm => 33
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S2x512, .f32⟩
  | .hbm, ⟨3, _⟩ => ⟨S1x128, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x1024x3584, .f32⟩
  | .hbm, ⟨22, _⟩ => ⟨S1024x3584, .f32⟩
  | .hbm, ⟨23, _⟩ => ⟨S1024x3584, .bf16⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S128, .f32⟩
  | .hbm, ⟨28, _⟩ => ⟨S1x128, .f32⟩
  | .hbm, ⟨29, _⟩ => ⟨S4x4096x512, .bf16⟩
  | .hbm, ⟨30, _⟩ => ⟨S4x4096x512, .bf16⟩
  | .hbm, ⟨31, _⟩ => ⟨S4x16x576x256, .bf16⟩
  | .hbm, ⟨32, _⟩ => ⟨S4x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x3584, .bf16⟩
  | .local _ .vmem, ⟨3, _⟩ => ⟨S1x512, .f32⟩
  | .local _ .vmem, ⟨4, _⟩ => ⟨S1x128, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x4x576x256, .bf16⟩
  | .local _ .vmem, ⟨10, _⟩ => ⟨S1x4x576x256, .bf16⟩
  | .local _ .vmem, ⟨11, _⟩ => ⟨S1x1024x512, .bf16⟩
  | .local _ .vmem, ⟨12, _⟩ => ⟨S1x1024x512, .bf16⟩
  | .local _ .vmem, ⟨13, _⟩ => ⟨S4x128x128, .f32⟩
  | .local _ .vmem, ⟨14, _⟩ => ⟨S4x136x128, .f32⟩
  | .local _ .vmem, ⟨15, _⟩ => ⟨S4x136x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x576x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixIdeal.lean ====
variable {F : FTy → Type} [FloatOps F] [Named F]
def κ : String → Option EReal := fun
  | "log2e" => some (((Real.log 2)⁻¹ : ℝ) : EReal)
  | _ => none
-- ==== MixRefIdeal.lean ====
abbrev S4x4096x1024 : Shape := ⟨3, ![4, 4096, 1024]⟩
abbrev S1x1024x5632 : Shape := ⟨3, ![1, 1024, 5632]⟩
abbrev S2x512 : Shape := ⟨2, ![2, 512]⟩
abbrev S1x128 : Shape := ⟨2, ![1, 128]⟩
abbrev S1024x5632 : Shape := ⟨2, ![1024, 5632]⟩
abbrev S4x4096x5632 : Shape := ⟨3, ![4, 4096, 5632]⟩
abbrev S4x4096x512 : Shape := ⟨3, ![4, 4096, 512]⟩
abbrev S4x4096x4x128 : Shape := ⟨4, ![4, 4096, 4, 128]⟩
abbrev S_ : Shape := ⟨0, ![]⟩
abbrev S4x4096x4x16 : Shape := ⟨4, ![4, 4096, 4, 16]⟩
abbrev S4x4096x4x144 : Shape := ⟨4, ![4, 4096, 4, 144]⟩
abbrev S4x16x256x576 : Shape := ⟨4, ![4, 16, 256, 576]⟩
abbrev S4x16x576x256 : Shape := ⟨4, ![4, 16, 576, 256]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S2x512, .f32⟩
  | .hbm, ⟨3, _⟩ => ⟨S1x128, .f32⟩
  | .hbm, ⟨4, _⟩ => ⟨S1024x5632, .f32⟩
  | .hbm, ⟨5, _⟩ => ⟨S4x4096x5632, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S4x4096x4x128, .f32⟩
  | .hbm, ⟨10, _⟩ => ⟨S_, .f32⟩
  | .hbm, ⟨11, _⟩ => ⟨S4x4096x4x16, .f32⟩
  | .hbm, ⟨12, _⟩ => ⟨S4x4096x4x144, .f32⟩
  | .hbm, ⟨13, _⟩ => ⟨S4x16x256x576, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S4x4096x512, .bf16⟩
  | .hbm, ⟨18, _⟩ => ⟨S4x4096x512, .bf16⟩
  | .hbm, ⟨19, _⟩ => ⟨S4x16x576x256, .f32⟩
  | .hbm, ⟨20, _⟩ => ⟨S4x16x576x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.RowMath.lean ====
/- Hand-written, untrusted: a layer norm of one row of 1024 numbers, and the rows that the merge call normalises, as functions
   of coordinates over the extended reals. Both the kernel's blocks and the reference's arrays are read as these. -/
module

public import Idealize.ShloMosaic.Lib.Pointwise

@[expose] public section

noncomputable section

namespace Cert.RowMath

open Idealize.ShloMosaic

/-- The mean of a row, as both programs divide it: by the constant 1024. -/
def mean (z : Fin 1024 → EReal) : EReal := Ideal.div (∑ k, z k) (Ideal.ofBits .f32 0x44800000#32)

/-- Entry `d` of the layer norm of the row `z` with gain `g` and bias `b`. -/
def layerNorm (z g b : Fin 1024 → EReal) (d : Fin 1024) : EReal :=
  (z d - mean z) * Ideal.rsqrt (mean (fun k => (z k - mean z) * (z k - mean z)) + Ideal.ofBits .f32 0x3727C5AC#32) * g d + b d

/-- Entry `k` of the row that the merge call normalises: the residual stream's row scaled, plus the gated branches projected.
    `a`, `y` are the two branches' rows, `h` the residual row, `ga`, `gy` the two halves of the gate projection, `ba`, `bh` the
    gate's biases, `wa`, `wh` the branch projections and `wo` the output projection. -/
def mergeRow (a y : Fin 512 → EReal) (h : Fin 1024 → EReal) (wa wh : Fin 512 → Fin 1024 → EReal) (ga gy : Fin 1024 → Fin 1024 → EReal)
    (ba bh : Fin 1024 → EReal) (wo : Fin 1024 → Fin 1024 → EReal) (k : Fin 1024) : EReal :=
  Ideal.ofBits .f32 0x3F9837F0#32 * h k
    + ∑ e, (Ideal.logistic ((∑ d, h d * ga d e) + ba e) * (∑ d, a d * wa d e)
      + Ideal.logistic ((∑ d, h d * gy d e) + bh e) * (∑ d, y d * wh d e)) * wo e k

/-- Entry (`r`, `k`) of the merge call's result, rows counted through the batch: the layer norm of the merged row of batch entry
    `r / 4096` at position `r % 4096`. The gate projection is columns 3584 to 5632 of the input projection `w`. -/
def mergeAt (a y : Fin 4 → Fin 4096 → Fin 512 → EReal) (h : Fin 4 → Fin 4096 → Fin 1024 → EReal) (w : Fin 1024 → Fin 5632 → EReal)
    (b : Fin 2048 → EReal) (wa wh : Fin 512 → Fin 1024 → EReal) (wo : Fin 1024 → Fin 1024 → EReal) (g lb : Fin 1024 → EReal)
    (r : Fin 16384) (k : Fin 1024) : EReal :=
  layerNorm (mergeRow (a ⟨r.val / 4096, by omega⟩ ⟨r.val % 4096, by omega⟩) (y ⟨r.val / 4096, by omega⟩ ⟨r.val % 4096, by omega⟩)
    (h ⟨r.val / 4096, by omega⟩ ⟨r.val % 4096, by omega⟩) wa wh (fun d e => w d ⟨3584 + e.val, by omega⟩)
    (fun d e => w d ⟨3584 + (1024 + e.val), by omega⟩) (fun e => b ⟨e.val, by omega⟩) (fun e => b ⟨1024 + e.val, by omega⟩) wo) g lb k

end Cert.RowMath

end
-- ==== Proof.MergeBlock.lean ====
/- Hand-written, untrusted: what one grid point of the merge call computes, at an index of its block. -/
module

public import proofs.«01_k».proof.Proof.Gen.MergeIdeal.Value
public import Idealize.ShloMosaic.Lib.Pipeline.ValueKit
public import proofs.«01_k».proof.Proof.RowMath

@[expose] public section

set_option maxRecDepth 16384

noncomputable section

namespace Cert.MergeIdeal.Block

open Cert.MergeIdeal Cert.MergeIdeal.Gen Cert.RowMath Idealize.ShloMosaic Idealize.ShloMosaic.TcCoe Idealize.SL.Sem

set_option maxHeartbeats 1600000 in
/-- Row `r`, column `l` of the block that a point writes is the layer norm of the merged row `r`. -/
theorem out_apply (x0 x1 : FVec Ideal S1024x512 .bf16) (x2 : FVec Ideal S1024x1024 .f32) (x3 x4 : FVec Ideal S512x1024 .bf16)
    (x5 : FVec Ideal S1024x2048 .bf16) (x6 : FVec Ideal S1x2048 .f32) (x7 : FVec Ideal S1024x1024 .bf16) (x8 x9 : FVec Ideal S1x1024 .f32)
    (y : S1024x1024.Idx) :
    out0_10 (F := Ideal) x0 x1 x2 x3 x4 x5 x6 x7 x8 x9 y
      = layerNorm (mergeRow (fun d => x0 (ix2 (y 0) d)) (fun d => x1 (ix2 (y 0) d)) (fun d => x2 (ix2 (y 0) d))
          (fun d e => x3 (ix2 d e)) (fun d e => x4 (ix2 d e)) (fun d e => x5 (ix2 d ⟨e.val, by omega⟩))
          (fun d e => x5 (ix2 d ⟨1024 + e.val, by omega⟩)) (fun e => x6 (ix2 0 ⟨e.val, by omega⟩))
          (fun e => x6 (ix2 0 ⟨1024 + e.val, by omega⟩)) (fun e k => x7 (ix2 e k)))
          (fun d => x8 (ix2 0 d)) (fun d => x9 (ix2 0 d)) (y 1) := by
  unfold_out out0_10
  canon_tiles x h
  all_goals
    open_payloads
    pointwise [layerNorm, mergeRow, mean]
    blk_point []

end Cert.MergeIdeal.Block

end
-- ==== Proof.MergeArray.lean ====
/- Hand-written, untrusted: the array that the merge call leaves, as one function of the arguments. -/
module

public import proofs.«01_k».proof.Proof.MergeBlock

@[expose] public section

set_option maxRecDepth 16384

noncomputable section

namespace Cert.MergeIdeal.Block

open Cert.MergeIdeal Cert.MergeIdeal.Gen Cert.RowMath Idealize.ShloMosaic Idealize.ShloMosaic.TcCoe Idealize.SL.Sem

variable (m : (ℓ : Loc nD τ sig) → Buf (Elt Ideal) ℓ)

/-- The result as a function of the arguments: `mergeAt` of them at each index. -/
def W (c : Dev nD) : FVec Ideal S16384x1024 .f32 := fun y =>
  mergeAt (fun i s d => m ((c : Thread nD τ).loc main_arg0) (ix3 i s d)) (fun i s d => m ((c : Thread nD τ).loc main_arg1) (ix3 i s d))
    (fun i s d => m ((c : Thread nD τ).loc main_arg2) (ix3 i s d)) (fun d e => m ((c : Thread nD τ).loc main_arg3) (ix3 0 d e))
    (fun e => m ((c : Thread nD τ).loc main_arg4) (ix2 0 e)) (fun d e => m ((c : Thread nD τ).loc main_arg5) (ix3 0 d e))
    (fun d e => m ((c : Thread nD τ).loc main_arg6) (ix3 0 d e)) (fun d e => m ((c : Thread nD τ).loc main_arg7) (ix3 0 d e))
    (fun d => m ((c : Thread nD τ).loc main_arg8) (ix2 0 d)) (fun d => m ((c : Thread nD τ).loc main_arg9) (ix2 0 d)) (y 0) (y 1)

/-- Which block of its array each window is at, at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- There are sixteen grid points. -/
theorem lt16 (t : Fin cfg0.N) : t.val < 16 := t.isLt

set_option maxHeartbeats 1600000 in
/-- What a point writes is its block of `W`. -/
theorem point (c : Dev nD) (t : Fin cfg0.N) (r l : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r l)
      = W m c (ix2 ⟨1024 * t.val + r.val, by have := lt16 t; omega⟩ l) := by
  have ht := lt16 t
  rw [out_apply]
  simp only [W, mergeAt, ix2_0, ix2_1]
  blk_point [iblk, V, idx t]

set_option maxHeartbeats 1600000 in
/-- The array after the run is `W`. -/
theorem final (c : Dev nD) : (dats m 0 c).arrAt 10 cfg0.N = W m c := by
  refine (dats m 0 c).arrAt_eq_of_covers 10 _ (by decide +kernel) fun t _ y => ?_
  blk_simp
  rw [after0_10]
  idx_vars y
  refine (point m c t _ _).trans (congrArg (W m c) ?_)
  blk_ext [idx t]

end Cert.MergeIdeal.Block

end
-- ==== Proof.MergeRef.lean ====
/- Hand-written, untrusted: the merge reference's result as the same function of the arguments as the kernel's. -/
module

public import proofs.«01_k».proof.Proof.Gen.MergeRefIdeal.Read
public import Idealize.ShloMosaic.Lib.Pipeline.ValueKit
public import Idealize.ShloMosaic.Lib.Tactic.CleanTypes
public import proofs.«01_k».proof.Proof.RowMath

@[expose] public section

set_option maxRecDepth 16384

noncomputable section

namespace Cert.MergeRefIdeal.Closed

open Cert.MergeRefIdeal Cert.MergeRefIdeal.Value Cert.MergeRefIdeal.Read Cert.RowMath Idealize.ShloMosaic Idealize.ShloMosaic.TcCoe Idealize.SL.Sem

variable (m : (ℓ : Loc nD τ sig) → Buf (Elt Ideal) ℓ)

/-- The result as a function of the arguments: `mergeAt` of them at each index. -/
def W (c : Dev nD) : FVec Ideal S16384x1024 .f32 := fun y =>
  mergeAt (fun i s d => m ((c.tc : Thread nD τ).loc main_arg0) (ix3 i s d)) (fun i s d => m ((c.tc : Thread nD τ).loc main_arg1) (ix3 i s d))
    (fun i s d => m ((c.tc : Thread nD τ).loc main_arg2) (ix3 i s d)) (fun d e => m ((c.tc : Thread nD τ).loc main_arg3) (ix3 0 d e))
    (fun e => m ((c.tc : Thread nD τ).loc main_arg4) (ix2 0 e)) (fun d e => m ((c.tc : Thread nD τ).loc main_arg5) (ix3 0 d e))
    (fun d e => m ((c.tc : Thread nD τ).loc main_arg6) (ix3 0 d e)) (fun d e => m ((c.tc : Thread nD τ).loc main_arg7) (ix3 0 d e))
    (fun d => m ((c.tc : Thread nD τ).loc main_arg8) (ix2 0 d)) (fun d => m ((c.tc : Thread nD τ).loc main_arg9) (ix2 0 d)) (y 0) (y 1)

set_option maxHeartbeats 1600000 in
/-- The rows that the reference normalises. -/
theorem row_apply (x0 x1 : FVec Ideal S4x4096x512 .bf16) (x2 : FVec Ideal S4x4096x1024 .f32) (x3 : FVec Ideal S1x1024x5632 .f32) (x4 : FVec Ideal S1x2048 .f32)
    (x5 x6 : FVec Ideal S1x512x1024 .f32) (x7 : FVec Ideal S1x1024x1024 .f32)
    (i : Fin 4) (s : Fin 4096) (k : Fin 1024) :
    val_main_v28 (F := Ideal) x0 x1 x2 x3 x4 x5 x6 x7 (ix3 i s k)
      = mergeRow (fun d => x0 (ix3 i s d)) (fun d => x1 (ix3 i s d)) (fun d => x2 (ix3 i s d)) (fun d e => x5 (ix3 0 d e))
          (fun d e => x6 (ix3 0 d e)) (fun d e => x3 (ix3 0 d ⟨3584 + e.val, by omega⟩))
          (fun d e => x3 (ix3 0 d ⟨3584 + (1024 + e.val), by omega⟩)) (fun e => x4 (ix2 0 ⟨e.val, by omega⟩))
          (fun e => x4 (ix2 0 ⟨1024 + e.val, by omega⟩)) (fun e k => x7 (ix3 0 e k)) k := by
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst_1 val_main_cst_0 val_main_cst
  clean_types
  pointwise [mergeRow, Ideal.logistic]

set_option maxHeartbeats 1600000 in
/-- The layer norm of them. -/
theorem norm_apply (x0 x1 : FVec Ideal S4x4096x512 .bf16) (x2 : FVec Ideal S4x4096x1024 .f32) (x3 : FVec Ideal S1x1024x5632 .f32) (x4 : FVec Ideal S1x2048 .f32)
    (x5 x6 : FVec Ideal S1x512x1024 .f32) (x7 : FVec Ideal S1x1024x1024 .f32) (x8 x9 : FVec Ideal S1x1024 .f32)
    (i : Fin 4) (s : Fin 4096) (k : Fin 1024) :
    val_main_v54 (F := Ideal) x0 x1 x2 x3 x4 x5 x6 x7 x8 x9 (ix3 i s k)
      = layerNorm (fun d => val_main_v28 (F := Ideal) x0 x1 x2 x3 x4 x5 x6 x7 (ix3 i s d)) (fun d => x8 (ix2 0 d)) (fun d => x9 (ix2 0 d)) k := by
  unfold val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_cst_2 val_main_cst_3 val_main_cst_4 val_main_cst_5 val_main_cst_6
  generalize val_main_v28 (F := Ideal) x0 x1 x2 x3 x4 x5 x6 x7 = z
  clean_types
  pointwise [layerNorm, mean]

set_option maxHeartbeats 1600000 in
/-- The reference's result is `W`. -/
theorem out_eq (c : Dev nD) : res_out0 (F := Ideal) m c = W m c := by
  unfold res_out0
  rw [val_main_v55_eq]
  funext y
  idx_vars y
  unfold val_main_v55
  have e := fun i s k => norm_apply (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) i s k
  generalize val_main_v54 (F := Ideal) _ _ _ _ _ _ _ _ _ _ = z at e ⊢
  have h : shapeCast S16384x1024 z Gen.shapeCasts_S4x4096x1024_S16384x1024 (ix2 y0 y1) = z (ix3 ⟨y0.val / 4096, by omega⟩ ⟨y0.val % 4096, by omega⟩ y1) := by
    pointwise []
  refine h.trans ((e _ _ _).trans ?_)
  simp only [row_apply]
  rfl

end Cert.MergeRefIdeal.Closed

end
-- ==== Proof.MergeEq.lean ====
/- Hand-written, untrusted: the merge call and its reference end with the same array. -/
module

public import proofs.«01_k».proof.Defs
public import proofs.«01_k».proof.Proof.MergeArray
public import proofs.«01_k».proof.Proof.MergeRef

@[expose] public section

noncomputable section

namespace Cert.MergeEq

open Idealize.ShloMosaic Idealize.ShloMosaic.TcCoe Idealize.SL.Sem

/-- From memories that agree on the arguments the two results are the same array. -/
theorem W_eq (m : (ℓ : Loc Cert.MergeIdeal.nD Cert.MergeIdeal.τ Cert.MergeIdeal.sig) → Buf (Elt Ideal) ℓ)
    (m' : (ℓ : Loc Cert.MergeRefIdeal.nD Cert.MergeRefIdeal.τ Cert.MergeRefIdeal.sig) → Buf (Elt Ideal) ℓ) (c : Dev Cert.MergeIdeal.nD)
    (e0 : m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0))
    (e1 : m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1))
    (e2 : m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2))
    (e3 : m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3))
    (e4 : m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4))
    (e5 : m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5))
    (e6 : m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6))
    (e7 : m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7))
    (e8 : m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8))
    (e9 : m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) :
    Cert.MergeRefIdeal.Closed.W m' c = Cert.MergeIdeal.Block.W m c := by
  unfold Cert.MergeRefIdeal.Closed.W Cert.MergeIdeal.Block.W
  rw [e0, e1, e2, e3, e4, e5, e6, e7, e8, e9]

end Cert.MergeEq

end
-- ==== Proof.MergeAlg.lean ====
/- Hand-written, untrusted: the merge call and its reference, run from memories that agree, end with equal results. -/
module

public import proofs.«01_k».proof.Defs
public import proofs.«01_k».proof.Proof.MergeEq

@[expose] public section

noncomputable section

namespace Cert.MergeEq

open Idealize.ShloMosaic Idealize.ShloMosaic.TcCoe Idealize.SL.Sem

/-- The merge call computes what its reference computes, at every argument. -/
theorem algebraic : Cert.algebraic_MergeIdeal_MergeRefIdeal (hMergeIdeal := Cert.MergeIdeal.Gen.facts) (hMergeRefIdeal := Cert.MergeRefIdeal.Gen.facts) := by
  intro m g m' g' _ hag
  refine ⟨fun c => Cert.MergeIdeal.Block.W m c, ?_, ?_⟩
  · refine (θ_run _ _ _).mono (fun r h c => ?_) (Cert.MergeIdeal.Value.run_blocks (F := Ideal) m g)
    exact ⟨((h c).1).trans (Cert.MergeIdeal.Block.final m c), (h c).2⟩
  · refine (θ_run _ _ _).mono (fun r h c => ?_) (Cert.MergeRefIdeal.Value.run (F := Ideal) m' g')
    obtain ⟨e0, e1, e2, e3, e4, e5, e6, e7, e8, e9⟩ := hag c
    exact ⟨((h c).1).trans ((Cert.MergeRefIdeal.Closed.out_eq m' c).trans (W_eq m m' c e0 e1 e2 e3 e4 e5 e6 e7 e8 e9)), (h c).2⟩

end Cert.MergeEq

end
-- ==== Proof.FfnMath.lean ====
/- Hand-written, untrusted: the feed-forward layer's mathematics on rows, apart from any program. -/
module

public import proofs.«01_k».proof.Proof.RowMath

@[expose] public section

set_option maxRecDepth 16384

noncomputable section

namespace Cert.FfnMath

open Cert.RowMath Idealize.ShloMosaic

/-- The tanh form of gelu, with the two programs' float constants. -/
def gelu (x : EReal) : EReal :=
  x * (Ideal.ofBits .f32 1056964608#32 * (1 + Ideal.tanh (Ideal.ofBits .f32 1061962282#32 * (x + Ideal.ofBits .f32 1027024659#32 * (x * (x * x))))))

/-- The gated activation's term at hidden unit `f` for output column `d`: `g`, `p1`, `p2` are the gate's row and the rows one and two
    before it, `u` the up projection's row. -/
def ffTerm (g p1 p2 u : Fin 2816 → EReal) (cw : Fin 3 → Fin 2816 → EReal) (cb : Fin 2816 → EReal) (wd : Fin 2816 → Fin 1024 → EReal)
    (d : Fin 1024) (f : Fin 2816) : EReal :=
  gelu (g f * cw 2 f + p1 f * cw 1 f + p2 f * cw 0 f + cb f) * u f * wd f d

/-- The same terms added over 256 hidden units from `b` on. -/
def ffBlock (t : Fin 2816 → EReal) (b : ℕ) (hb : b + 256 ≤ 2816) : EReal := ∑ l : Fin 256, t ⟨b + l.val, by omega⟩

/-- A sum over the hidden units, block after block. -/
def ffSum (t : Fin 2816 → EReal) : EReal :=
  (∑ l : Fin 256, t ⟨l.val, by omega⟩) + ffBlock t 256 (by decide) + ffBlock t 512 (by decide) + ffBlock t 768 (by decide) + ffBlock t 1024 (by decide)
    + ffBlock t 1280 (by decide) + ffBlock t 1536 (by decide) + ffBlock t 1792 (by decide) + ffBlock t 2048 (by decide)
    + ffBlock t 2304 (by decide) + ffBlock t 2560 (by decide)

/-- One row of the feed-forward call's result: the layer norm of the scaled row plus the feed-forward part. -/
def ffnRow (h : Fin 1024 → EReal) (g p1 p2 u : Fin 2816 → EReal) (cw : Fin 3 → Fin 2816 → EReal) (cb : Fin 2816 → EReal)
    (wd : Fin 2816 → Fin 1024 → EReal) (lg lb : Fin 1024 → EReal) : Fin 1024 → EReal :=
  layerNorm (fun d => Ideal.ofBits .f32 1066940400#32 * h d + ffSum (ffTerm g p1 p2 u cw cb wd d)) lg lb

/-- A product of a row with a matrix. -/
def rowMul {n : ℕ} (h : Fin 1024 → EReal) (w : Fin 1024 → Fin n → EReal) (f : Fin n) : EReal := ∑ k, h k * w k f

/-- The gate's row `8 - o` before row `R` of a block: from the eight rows `T` before the block, or from the block. -/
def prevRow (T : Fin 8 → Fin 2816 → EReal) (h : Fin 1024 → Fin 1024 → EReal) (wg : Fin 1024 → Fin 2816 → EReal) (o : ℕ) (ho : o ≤ 8)
    (R : Fin 1024) (f : Fin 2816) : EReal :=
  if hR : R.val + o < 8 then T ⟨R.val + o, hR⟩ f else rowMul (h ⟨R.val + o - 8, by omega⟩) wg f

/-- In the rows from `s` on it is read from the block, whichever store of the kernel it came by. -/
theorem prevRow_mid (T : Fin 8 → Fin 2816 → EReal) (h : Fin 1024 → Fin 1024 → EReal) (wg : Fin 1024 → Fin 2816 → EReal) (o : ℕ) (ho : o ≤ 8)
    (s p : ℕ) (hp : s = p + 8) (r : Fin 256) (hs : s + r.val < 1024) (f : Fin 2816) :
    prevRow T h wg o ho ⟨s + r.val, hs⟩ f
      = if hr : r.val + o < 8 then rowMul (h ⟨p + (r.val + o), by omega⟩) wg f else rowMul (h ⟨s + (r.val + o - 8), by omega⟩) wg f := by
  unfold prevRow
  rw [dif_neg (show ¬ (s + r.val + o < 8) by omega)]
  split
  · exact congrArg (fun i => rowMul (h i) wg f) (Fin.ext (by show s + r.val + o - 8 = p + (r.val + o); omega))
  · exact congrArg (fun i => rowMul (h i) wg f) (Fin.ext (by show s + r.val + o - 8 = s + (r.val + o - 8); omega))

/-- The same where the eight rows come from the whole 256 rows stored before. -/
theorem prevRow_mid' (T : Fin 8 → Fin 2816 → EReal) (h : Fin 1024 → Fin 1024 → EReal) (wg : Fin 1024 → Fin 2816 → EReal) (o : ℕ) (ho : o ≤ 8)
    (s q : ℕ) (hq : s = q + 256) (r : Fin 256) (hs : s + r.val < 1024) (f : Fin 2816) :
    prevRow T h wg o ho ⟨s + r.val, hs⟩ f
      = if hr : r.val + o < 8 then rowMul (h ⟨q + (248 + (r.val + o)), by omega⟩) wg f else rowMul (h ⟨s + (r.val + o - 8), by omega⟩) wg f := by
  unfold prevRow
  rw [dif_neg (show ¬ (s + r.val + o < 8) by omega)]
  split
  · exact congrArg (fun i => rowMul (h i) wg f) (Fin.ext (by show s + r.val + o - 8 = q + (248 + (r.val + o)); omega))
  · exact congrArg (fun i => rowMul (h i) wg f) (Fin.ext (by show s + r.val + o - 8 = s + (r.val + o - 8); omega))

end Cert.FfnMath

end
-- ==== Proof.SlotRead.lean ====
/- Hand-written, untrusted: a row-shifted read of one slot of a two-slot buffer whose two newest stores are eight rows and the 256 rows after them. -/
module

public import Idealize.ShloMosaic.Lib.Pipeline.ValueKit
public import Idealize.ShloMosaic.Lib.Pipeline.ReadBack

@[expose] public section

noncomputable section

namespace Cert.SlotRead

open Idealize.ShloMosaic

/-- The buffer's shape: two slots of 264 rows of 256 lanes. -/
abbrev Buf3 : Shape := ⟨3, ![2, 264, 256]⟩
/-- One slot's shape. -/
abbrev Slot : Shape := ⟨2, ![264, 256]⟩

/-- 256 rows, from row `o` on, of a column whose first eight rows are `H` and whose next 256 rows are `G`. -/
def shiftRows {V : Type} (o : ℕ) (ho : o ≤ 8) (H : (⟨2, ![8, 256]⟩ : Shape).Idx → V) (G : (⟨2, ![256, 256]⟩ : Shape).Idx → V) (r l : Fin 256) : V :=
  if h : r.val + o < 8 then H (ValueIdx.ix2 ⟨r.val + o, h⟩ l) else G (ValueIdx.ix2 ⟨r.val + o - 8, by omega⟩ l)

variable {Val : EltTy → Type} {e : EltTy} [∀ e, Nonempty (Val e)]

/-- A piece stored through slot `k` at rows `a …`, read at an index of it. -/
theorem canon_hit (k a p : ℕ) (inb₀ : ∀ i, (![k, 0, 0] : Fin 3 → ℕ) i + (![1, 264, 256] : Fin 3 → ℕ) i ≤ Buf3.size i)
    (inb : ∀ i, (![a, 0] : Fin 2 → ℕ) i + (![p, 256] : Fin 2 → ℕ) i ≤ Slot.size i) (h0) (hs) (hst)
    (w : (Rect.unit (s := Slot) ![a, 0] ![p, 256] inb).shape.Idx → Val e) (hR)
    (L : List (View.Piece Val Buf3 e)) (y : Buf3.Idx) (z0 : Fin p) (z1 : Fin 256)
    (e0 : (y 0).val = k) (e1 : (y 1).val = a + z0.val) (e2 : (y 2).val = z1.val) :
    View.canon (⟨(Rect.unit (s := Buf3) ![k, 0, 0] ![1, 264, 256] inb₀).within
        (Rect.consLift (n := 2) (d := ![264, 256]) (Rect.unit (s := Slot) ![a, 0] ![p, 256] inb) ![1, 264, 256] h0 hs) hst, Rect.payAlong hR w⟩ :: L) y
      = w (ValueIdx.ix2 z0 z1) := by
  let R := Rect.consLift (n := 2) (d := ![264, 256]) (Rect.unit (s := Slot) ![a, 0] ![p, 256] inb) ![1, 264, 256] h0 hs
  let x : R.shape.Idx := Fin.cons (⟨0, Nat.one_pos⟩ : Fin 1) (ValueIdx.ix2 z0 z1)
  have hx : ((Rect.unit (s := Buf3) ![k, 0, 0] ![1, 264, 256] inb₀).within R hst).emb x = y := by
    apply Rect.emb_eq_of_coords
    intro i
    fin_cases i
    · show (y 0).val = k + 0 + 1 * 0
      omega
    · show (y 1).val = 0 + a + 1 * z0.val
      omega
    · show (y 2).val = 0 + 0 + 1 * z1.val
      omega
  refine (congrArg (View.canon _) hx.symm).trans ?_
  refine (View.canon_cons_emb ((Rect.unit (s := Buf3) ![k, 0, 0] ![1, 264, 256] inb₀).within R hst) _ L x).trans ?_
  refine Rect.payAlong_consLift (n := 2) (d := ![264, 256]) (Rect.unit (s := Slot) ![a, 0] ![p, 256] inb) ![1, 264, 256] h0 hs w hR x (ValueIdx.ix2 z0 z1) fun i => ?_
  fin_cases i <;> rfl

/-- A piece stored through slot `k` at rows `a …`, read at an index above it. -/
theorem canon_miss (k a p : ℕ) (inb₀ : ∀ i, (![k, 0, 0] : Fin 3 → ℕ) i + (![1, 264, 256] : Fin 3 → ℕ) i ≤ Buf3.size i)
    (inb : ∀ i, (![a, 0] : Fin 2 → ℕ) i + (![p, 256] : Fin 2 → ℕ) i ≤ Slot.size i) (h0) (hs) (hst)
    (w) (L : List (View.Piece Val Buf3 e)) (y : Buf3.Idx) (h : (y 1).val < a) :
    View.canon (⟨(Rect.unit (s := Buf3) ![k, 0, 0] ![1, 264, 256] inb₀).within
        (Rect.consLift (n := 2) (d := ![264, 256]) (Rect.unit (s := Slot) ![a, 0] ![p, 256] inb) ![1, 264, 256] h0 hs) hst, w⟩ :: L) y
      = View.canon L y :=
  View.canon_cons_of_not_mem _ L (Rect.not_mem_set_of_axis _ y (1 : Fin 3) a p (Nat.zero_add a) rfl rfl (.inl h))

/-- The sizes of a slot with its unit axis are the slot's. -/
theorem slot_h0 : (![1, 264, 256] : Fin 3 → ℕ) 0 = 1 := rfl
theorem slot_hs : ∀ i : Fin 2, (![1, 264, 256] : Fin 3 → ℕ) i.succ = (![264, 256] : Fin 2 → ℕ) i := fun i => by fin_cases i <;> rfl

/-- A function of a row and a lane as one of the indices of a loaded slot, which have a unit axis in front. -/
def slotCol {V : Type} (f : Fin 256 → Fin 256 → V) : (⟨3, Fin.cons 1 ![256, 256]⟩ : Shape).Idx → V := fun x => f (x (1 : Fin 3)) (x (2 : Fin 3))

/-- Read at the place that matches a two-axis index, it is the function of that index. -/
theorem slotCol_reshape {V : Type} (f : Fin 256 → Fin 256 → V) (k o : ℕ)
    (i1 : ∀ i, (![k, 0, 0] : Fin 3 → ℕ) i + (![1, 264, 256] : Fin 3 → ℕ) i ≤ Buf3.size i) (i6 : ∀ i, (![o, 0] : Fin 2 → ℕ) i + (![256, 256] : Fin 2 → ℕ) i ≤ Slot.size i) (hV)
    (x : (Rect.unit (s := Slot) ![o, 0] ![256, 256] i6).toLoadRect.shape.Idx) :
    slotCol f (Shape.reshapeEquiv (s := (LoadRect.consLift (n := 2) (d := ![264, 256]) (Rect.unit (s := Slot) ![o, 0] ![256, 256] i6).toLoadRect ![1, 264, 256] slot_h0 slot_hs : LoadRect (Rect.unit (s := Buf3) ![k, 0, 0] ![1, 264, 256] i1).toLoadRect.shape).shape)
      (s' := (Rect.unit (s := Slot) ![o, 0] ![256, 256] i6).toLoadRect.shape) hV x) = f (x (0 : Fin 2)) (x (1 : Fin 2)) := by
  have hx : Shape.reshapeEquiv hV x = Fin.cons (⟨0, Nat.one_pos⟩ : Fin 1) x := Shape.reshapeEquiv_cons_one (n := 2) (d := ![256, 256]) hV x
  exact (congrArg (slotCol f) hx).trans rfl

/-- A load of 256 rows of slot `k`, from row `o` on, after the stores of the slot's first eight rows and of its other 256: a shifted column. -/
theorem readCov_slot {sig : RefSig} {κ : Kind} {sp : Space} (v : View sig κ sp Buf3 e) (k o : ℕ) (ho : o ≤ 8)
    (i1) (i2 : ∀ i, (![8, 0] : Fin 2 → ℕ) i + (![256, 256] : Fin 2 → ℕ) i ≤ Slot.size i) (i4 : ∀ i, (![0, 0] : Fin 2 → ℕ) i + (![8, 256] : Fin 2 → ℕ) i ≤ Slot.size i) (i6 : ∀ i, (![o, 0] : Fin 2 → ℕ) i + (![256, 256] : Fin 2 → ℕ) i ≤ Slot.size i)
    (G : (Rect.unit (s := Slot) ![8, 0] ![256, 256] i2).shape.Idx → Val e) (H : (Rect.unit (s := Slot) ![0, 0] ![8, 256] i4).shape.Idx → Val e) (hG) (hH)
    (L : List (View.Piece Val Buf3 e)) :
    v.readCov
      (⟨(Rect.unit (s := Buf3) ![k, 0, 0] ![1, 264, 256] i1).within
          (Rect.consLift (n := 2) (d := ![264, 256]) (Rect.unit (s := Slot) ![8, 0] ![256, 256] i2) ![1, 264, 256] slot_h0 slot_hs) (fun _ => rfl), Rect.payAlong (s₀ := (Rect.unit (s := Buf3) ![k, 0, 0] ![1, 264, 256] i1).shape) (R := Rect.consLift (n := 2) (d := ![264, 256]) (Rect.unit (s := Slot) ![8, 0] ![256, 256] i2) ![1, 264, 256] slot_h0 slot_hs) hG G⟩ ::
        ⟨(Rect.unit (s := Buf3) ![k, 0, 0] ![1, 264, 256] i1).within
          (Rect.consLift (n := 2) (d := ![264, 256]) (Rect.unit (s := Slot) ![0, 0] ![8, 256] i4) ![1, 264, 256] slot_h0 slot_hs) (fun _ => rfl), Rect.payAlong (s₀ := (Rect.unit (s := Buf3) ![k, 0, 0] ![1, 264, 256] i1).shape) (R := Rect.consLift (n := 2) (d := ![264, 256]) (Rect.unit (s := Slot) ![0, 0] ![8, 256] i4) ![1, 264, 256] slot_h0 slot_hs) hH H⟩ :: L)
      ((Rect.unit (s := Buf3) ![k, 0, 0] ![1, 264, 256] i1).withinL
        (LoadRect.consLift (n := 2) (d := ![264, 256]) (Rect.unit (s := Slot) ![o, 0] ![256, 256] i6).toLoadRect ![1, 264, 256] slot_h0 slot_hs) (fun _ => rfl))
      = slotCol (shiftRows o ho H G) := by
  rw [View.readCov_eq_canon']
  funext x
  have h0 : (x (0 : Fin 3)).val < 1 := (x (0 : Fin 3)).isLt
  unfold slotCol shiftRows
  split
  · rename_i h
    refine (canon_miss _ _ _ _ _ _ _ _ _ _ _ (by show 0 + o + 1 * (x (1 : Fin 3)).val < 8; omega)).trans ?_
    exact canon_hit _ _ _ _ _ _ _ _ _ _ _ _ ⟨(x (1 : Fin 3)).val + o, h⟩ (x (2 : Fin 3)) (by show k + 0 + 1 * (x (0 : Fin 3)).val = k; omega)
      (by show 0 + o + 1 * (x (1 : Fin 3)).val = 0 + ((x (1 : Fin 3)).val + o); omega) (by show 0 + 0 + 1 * (x (2 : Fin 3)).val = (x (2 : Fin 3)).val; omega)
  · rename_i h
    have hl : (x (1 : Fin 3)).val < 256 := (x (1 : Fin 3)).isLt
    exact canon_hit _ _ _ _ _ _ _ _ _ _ _ _ ⟨(x (1 : Fin 3)).val + o - 8, by omega⟩ (x (2 : Fin 3)) (by show k + 0 + 1 * (x (0 : Fin 3)).val = k; omega)
      (by show 0 + o + 1 * (x (1 : Fin 3)).val = 8 + ((x (1 : Fin 3)).val + o - 8); omega) (by show 0 + 0 + 1 * (x (2 : Fin 3)).val = (x (2 : Fin 3)).val; omega)

/-- A slot column read at an index with a unit axis in front. -/
theorem slotCol_ix3 {V : Type} (f : Fin 256 → Fin 256 → V) (a : Fin 1) (r l : Fin 256) : slotCol f (ix3 a r l) = f r l := rfl

end Cert.SlotRead

end
-- ==== Proof.FfnOutA0.lean ====
/- Hand-written, untrusted: what one grid point of the feed-forward call writes in rows 0 to 255 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point at the start of a batch element writes in rows 0 to 255 of its block. -/
theorem outA0 (c : Dev nD) (t : Fin cfg0.N) (h : t.val % 4 = 0) (y : S1x1024x1024.Idx) (hlo : 0 ≤ (y 1).val) (hhi : (y 1).val < 256) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => 0) (fun r d => iblk m c 0 t (ix3 0 r d)) (fun k f => iblk m c 1 t (ix2 k f)) 7 (by decide) (y 1))
          (prevRow (fun p f => 0) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_A m c t h]
  frame_open
  simp (disch := decide) only [↓ View.readCov_skip, ↓ View.readCov_cons_toLoadRect, ↓ View.readCov_fill]
  frame_out
  canon_tiles x h
  case piece3 =>
    have hy1 : y 1 = ⟨(x 1).val, by omega⟩ := Fin.ext h1
    have hy2 : y 2 = x 2 := Fin.ext h2
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul, prevRow]
  all_goals
    exfalso
    omega

end Cert.FfnIdeal.Block

end
-- ==== Proof.FfnOutA1.lean ====
/- Hand-written, untrusted: what one grid point of the feed-forward call writes in rows 256 to 511 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point at the start of a batch element writes in rows 256 to 511 of its block. -/
theorem outA1 (c : Dev nD) (t : Fin cfg0.N) (h : t.val % 4 = 0) (y : S1x1024x1024.Idx) (hlo : 256 ≤ (y 1).val) (hhi : (y 1).val < 512) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => 0) (fun r d => iblk m c 0 t (ix3 0 r d)) (fun k f => iblk m c 1 t (ix2 k f)) 7 (by decide) (y 1))
          (prevRow (fun p f => 0) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_A m c t h]
  frame_open
  simp (disch := decide) only [↓ View.readCov_skip, ↓ View.readCov_cons_toLoadRect, ↓ View.readCov_fill]
  frame_out
  canon_tiles x h
  case piece2 =>
    have hy1 : y 1 = ⟨256 + (x 1).val, by omega⟩ := Fin.ext h1
    have hy2 : y 2 = x 2 := Fin.ext h2
    have e7 : prevRow (fun p f => 0) (fun r d => iblk m c 0 t (ix3 0 r d)) (fun k f => iblk m c 1 t (ix2 k f)) 7 (by decide) (y 1)
        = fun f => if hr : (x 1).val + 7 < 8 then rowMul (fun d => iblk m c 0 t (ix3 0 ⟨248 + ((x 1).val + 7), by omega⟩ d)) (fun k f => iblk m c 1 t (ix2 k f)) f
            else rowMul (fun d => iblk m c 0 t (ix3 0 ⟨256 + ((x 1).val + 7 - 8), by omega⟩ d)) (fun k f => iblk m c 1 t (ix2 k f)) f := by
      rw [hy1]
      funext f
      exact prevRow_mid _ _ _ _ _ 256 248 rfl (x 1) _ f
    rw [e7]
    have e6 : prevRow (fun p f => 0) (fun r d => iblk m c 0 t (ix3 0 r d)) (fun k f => iblk m c 1 t (ix2 k f)) 6 (by decide) (y 1)
        = fun f => if hr : (x 1).val + 6 < 8 then rowMul (fun d => iblk m c 0 t (ix3 0 ⟨248 + ((x 1).val + 6), by omega⟩ d)) (fun k f => iblk m c 1 t (ix2 k f)) f
            else rowMul (fun d => iblk m c 0 t (ix3 0 ⟨256 + ((x 1).val + 6 - 8), by omega⟩ d)) (fun k f => iblk m c 1 t (ix2 k f)) f := by
      rw [hy1]
      funext f
      exact prevRow_mid _ _ _ _ _ 256 248 rfl (x 1) _ f
    rw [e6]
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul]
  all_goals
    exfalso
    omega

end Cert.FfnIdeal.Block

end
-- ==== Proof.FfnOutA2.lean ====
/- Hand-written, untrusted: what one grid point of the feed-forward call writes in rows 512 to 767 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point at the start of a batch element writes in rows 512 to 767 of its block. -/
theorem outA2 (c : Dev nD) (t : Fin cfg0.N) (h : t.val % 4 = 0) (y : S1x1024x1024.Idx) (hlo : 512 ≤ (y 1).val) (hhi : (y 1).val < 768) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => 0) (fun r d => iblk m c 0 t (ix3 0 r d)) (fun k f => iblk m c 1 t (ix2 k f)) 7 (by decide) (y 1))
          (prevRow (fun p f => 0) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_A m c t h]
  frame_open
  simp (disch := decide) only [↓ View.readCov_skip, ↓ View.readCov_cons_toLoadRect, ↓ View.readCov_fill]
  frame_out
  canon_tiles x h
  case piece1 =>
    have hy1 : y 1 = ⟨512 + (x 1).val, by omega⟩ := Fin.ext h1
    have hy2 : y 2 = x 2 := Fin.ext h2
    have e7 : prevRow (fun p f => 0) (fun r d => iblk m c 0 t (ix3 0 r d)) (fun k f => iblk m c 1 t (ix2 k f)) 7 (by decide) (y 1)
        = fun f => if hr : (x 1).val + 7 < 8 then rowMul (fun d => iblk m c 0 t (ix3 0 ⟨256 + (248 + ((x 1).val + 7)), by omega⟩ d)) (fun k f => iblk m c 1 t (ix2 k f)) f
            else rowMul (fun d => iblk m c 0 t (ix3 0 ⟨512 + ((x 1).val + 7 - 8), by omega⟩ d)) (fun k f => iblk m c 1 t (ix2 k f)) f := by
      rw [hy1]
      funext f
      exact prevRow_mid' _ _ _ _ _ 512 256 rfl (x 1) _ f
    rw [e7]
    have e6 : prevRow (fun p f => 0) (fun r d => iblk m c 0 t (ix3 0 r d)) (fun k f => iblk m c 1 t (ix2 k f)) 6 (by decide) (y 1)
        = fun f => if hr : (x 1).val + 6 < 8 then rowMul (fun d => iblk m c 0 t (ix3 0 ⟨256 + (248 + ((x 1).val + 6)), by omega⟩ d)) (fun k f => iblk m c 1 t (ix2 k f)) f
            else rowMul (fun d => iblk m c 0 t (ix3 0 ⟨512 + ((x 1).val + 6 - 8), by omega⟩ d)) (fun k f => iblk m c 1 t (ix2 k f)) f := by
      rw [hy1]
      funext f
      exact prevRow_mid' _ _ _ _ _ 512 256 rfl (x 1) _ f
    rw [e6]
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul]
  all_goals
    exfalso
    omega

end Cert.FfnIdeal.Block

end
-- ==== Proof.FfnOutA3.lean ====
/- Hand-written, untrusted: what one grid point of the feed-forward call writes in rows 768 to 1023 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point at the start of a batch element writes in rows 768 to 1023 of its block. -/
theorem outA3 (c : Dev nD) (t : Fin cfg0.N) (h : t.val % 4 = 0) (y : S1x1024x1024.Idx) (hlo : 768 ≤ (y 1).val) (hhi : (y 1).val < 1024) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => 0) (fun r d => iblk m c 0 t (ix3 0 r d)) (fun k f => iblk m c 1 t (ix2 k f)) 7 (by decide) (y 1))
          (prevRow (fun p f => 0) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_A m c t h]
  frame_open
  simp (disch := decide) only [↓ View.readCov_skip, ↓ View.readCov_cons_toLoadRect, ↓ View.readCov_fill]
  frame_out
  canon_tiles x h
  case piece0 =>
    have hy1 : y 1 = ⟨768 + (x 1).val, by omega⟩ := Fin.ext h1
    have hy2 : y 2 = x 2 := Fin.ext h2
    have e7 : prevRow (fun p f => 0) (fun r d => iblk m c 0 t (ix3 0 r d)) (fun k f => iblk m c 1 t (ix2 k f)) 7 (by decide) (y 1)
        = fun f => if hr : (x 1).val + 7 < 8 then rowMul (fun d => iblk m c 0 t (ix3 0 ⟨512 + (248 + ((x 1).val + 7)), by omega⟩ d)) (fun k f => iblk m c 1 t (ix2 k f)) f
            else rowMul (fun d => iblk m c 0 t (ix3 0 ⟨768 + ((x 1).val + 7 - 8), by omega⟩ d)) (fun k f => iblk m c 1 t (ix2 k f)) f := by
      rw [hy1]
      funext f
      exact prevRow_mid' _ _ _ _ _ 768 512 rfl (x 1) _ f
    rw [e7]
    have e6 : prevRow (fun p f => 0) (fun r d => iblk m c 0 t (ix3 0 r d)) (fun k f => iblk m c 1 t (ix2 k f)) 6 (by decide) (y 1)
        = fun f => if hr : (x 1).val + 6 < 8 then rowMul (fun d => iblk m c 0 t (ix3 0 ⟨512 + (248 + ((x 1).val + 6)), by omega⟩ d)) (fun k f => iblk m c 1 t (ix2 k f)) f
            else rowMul (fun d => iblk m c 0 t (ix3 0 ⟨768 + ((x 1).val + 6 - 8), by omega⟩ d)) (fun k f => iblk m c 1 t (ix2 k f)) f := by
      rw [hy1]
      funext f
      exact prevRow_mid' _ _ _ _ _ 768 512 rfl (x 1) _ f
    rw [e6]
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul]
  all_goals
    exfalso
    omega

end Cert.FfnIdeal.Block

end
-- ==== Proof.FfnOutB0.lean ====
/- Hand-written, untrusted: what one grid point of the feed-forward call writes in rows 0 to 255 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point further on in a batch element writes in rows 0 to 255 of its block. -/
theorem outB0 (c : Dev nD) (t : Fin cfg0.N) (h : ¬t.val % 4 = 0) (y : S1x1024x1024.Idx) (hlo : 0 ≤ (y 1).val) (hhi : (y 1).val < 256) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => (outsAt0 (F := Ideal) m c (t.val - 1) (by have := t.isLt; omega)).2 (ix2 p f)) (fun r d => iblk m c 0 t (ix3 0 r d)) (fun k f => iblk m c 1 t (ix2 k f)) 7 (by decide) (y 1))
          (prevRow (fun p f => (outsAt0 (F := Ideal) m c (t.val - 1) (by have := t.isLt; omega)).2 (ix2 p f)) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_B m c t h]
  frame_open
  simp (disch := decide) only [↓ View.readCov_skip, ↓ View.readCov_cons_toLoadRect, ↓ View.readCov_fill]
  frame_out
  canon_tiles x h
  case piece3 =>
    have hy1 : y 1 = ⟨(x 1).val, by omega⟩ := Fin.ext h1
    have hy2 : y 2 = x 2 := Fin.ext h2
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul, prevRow]
  all_goals
    exfalso
    omega

end Cert.FfnIdeal.Block

end
-- ==== Proof.FfnOutB1.lean ====
/- Hand-written, untrusted: what one grid point of the feed-forward call writes in rows 256 to 511 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point further on in a batch element writes in rows 256 to 511 of its block. -/
theorem outB1 (c : Dev nD) (t : Fin cfg0.N) (h : ¬t.val % 4 = 0) (y : S1x1024x1024.Idx) (hlo : 256 ≤ (y 1).val) (hhi : (y 1).val < 512) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => (outsAt0 (F := Ideal) m c (t.val - 1) (by have := t.isLt; omega)).2 (ix2 p f)) (fun r d => iblk m c 0 t (ix3 0 r d)) (fun k f => iblk m c 1 t (ix2 k f)) 7 (by decide) (y 1))
          (prevRow (fun p f => (outsAt0 (F := Ideal) m c (t.val - 1) (by have := t.isLt; omega)).2 (ix2 p f)) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_B m c t h]
  frame_open
  simp (disch := decide) only [↓ View.readCov_skip, ↓ View.readCov_cons_toLoadRect, ↓ View.readCov_fill]
  frame_out
  canon_tiles x h
  case piece2 =>
    have hy1 : y 1 = ⟨256 + (x 1).val, by omega⟩ := Fin.ext h1
    have hy2 : y 2 = x 2 := Fin.ext h2
    have e7 : prevRow (fun p f => (outsAt0 (F := Ideal) m c (t.val - 1) (by have := t.isLt; omega)).2 (ix2 p f)) (fun r d => iblk m c 0 t (ix3 0 r d)) (fun k f => iblk m c 1 t (ix2 k f)) 7 (by decide) (y 1)
        = fun f => if hr : (x 1).val + 7 < 8 then rowMul (fun d => iblk m c 0 t (ix3 0 ⟨248 + ((x 1).val + 7), by omega⟩ d)) (fun k f => iblk m c 1 t (ix2 k f)) f
            else rowMul (fun d => iblk m c 0 t (ix3 0 ⟨256 + ((x 1).val + 7 - 8), by omega⟩ d)) (fun k f => iblk m c 1 t (ix2 k f)) f := by
      rw [hy1]
      funext f
      exact prevRow_mid _ _ _ _ _ 256 248 rfl (x 1) _ f
    rw [e7]
    have e6 : prevRow (fun p f => (outsAt0 (F := Ideal) m c (t.val - 1) (by have := t.isLt; omega)).2 (ix2 p f)) (fun r d => iblk m c 0 t (ix3 0 r d)) (fun k f => iblk m c 1 t (ix2 k f)) 6 (by decide) (y 1)
        = fun f => if hr : (x 1).val + 6 < 8 then rowMul (fun d => iblk m c 0 t (ix3 0 ⟨248 + ((x 1).val + 6), by omega⟩ d)) (fun k f => iblk m c 1 t (ix2 k f)) f
            else rowMul (fun d => iblk m c 0 t (ix3 0 ⟨256 + ((x 1).val + 6 - 8), by omega⟩ d)) (fun k f => iblk m c 1 t (ix2 k f)) f := by
      rw [hy1]
      funext f
      exact prevRow_mid _ _ _ _ _ 256 248 rfl (x 1) _ f
    rw [e6]
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul]
  all_goals
    exfalso
    omega

end Cert.FfnIdeal.Block

end
-- ==== Proof.FfnOutB2.lean ====
/- Hand-written, untrusted: what one grid point of the feed-forward call writes in rows 512 to 767 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point further on in a batch element writes in rows 512 to 767 of its block. -/
theorem outB2 (c : Dev nD) (t : Fin cfg0.N) (h : ¬t.val % 4 = 0) (y : S1x1024x1024.Idx) (hlo : 512 ≤ (y 1).val) (hhi : (y 1).val < 768) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => (outsAt0 (F := Ideal) m c (t.val - 1) (by have := t.isLt; omega)).2 (ix2 p f)) (fun r d => iblk m c 0 t (ix3 0 r d)) (fun k f => iblk m c 1 t (ix2 k f)) 7 (by decide) (y 1))
          (prevRow (fun p f => (outsAt0 (F := Ideal) m c (t.val - 1) (by have := t.isLt; omega)).2 (ix2 p f)) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_B m c t h]
  frame_open
  simp (disch := decide) only [↓ View.readCov_skip, ↓ View.readCov_cons_toLoadRect, ↓ View.readCov_fill]
  frame_out
  canon_tiles x h
  case piece1 =>
    have hy1 : y 1 = ⟨512 + (x 1).val, by omega⟩ := Fin.ext h1
    have hy2 : y 2 = x 2 := Fin.ext h2
    have e7 : prevRow (fun p f => (outsAt0 (F := Ideal) m c (t.val - 1) (by have := t.isLt; omega)).2 (ix2 p f)) (fun r d => iblk m c 0 t (ix3 0 r d)) (fun k f => iblk m c 1 t (ix2 k f)) 7 (by decide) (y 1)
        = fun f => if hr : (x 1).val + 7 < 8 then rowMul (fun d => iblk m c 0 t (ix3 0 ⟨256 + (248 + ((x 1).val + 7)), by omega⟩ d)) (fun k f => iblk m c 1 t (ix2 k f)) f
            else rowMul (fun d => iblk m c 0 t (ix3 0 ⟨512 + ((x 1).val + 7 - 8), by omega⟩ d)) (fun k f => iblk m c 1 t (ix2 k f)) f := by
      rw [hy1]
      funext f
      exact prevRow_mid' _ _ _ _ _ 512 256 rfl (x 1) _ f
    rw [e7]
    have e6 : prevRow (fun p f => (outsAt0 (F := Ideal) m c (t.val - 1) (by have := t.isLt; omega)).2 (ix2 p f)) (fun r d => iblk m c 0 t (ix3 0 r d)) (fun k f => iblk m c 1 t (ix2 k f)) 6 (by decide) (y 1)
        = fun f => if hr : (x 1).val + 6 < 8 then rowMul (fun d => iblk m c 0 t (ix3 0 ⟨256 + (248 + ((x 1).val + 6)), by omega⟩ d)) (fun k f => iblk m c 1 t (ix2 k f)) f
            else rowMul (fun d => iblk m c 0 t (ix3 0 ⟨512 + ((x 1).val + 6 - 8), by omega⟩ d)) (fun k f => iblk m c 1 t (ix2 k f)) f := by
      rw [hy1]
      funext f
      exact prevRow_mid' _ _ _ _ _ 512 256 rfl (x 1) _ f
    rw [e6]
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul]
  all_goals
    exfalso
    omega

end Cert.FfnIdeal.Block

end
-- ==== Proof.FfnOutB3.lean ====
/- Hand-written, untrusted: what one grid point of the feed-forward call writes in rows 768 to 1023 of its block. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

set_option maxHeartbeats 8000000 in
/-- What a point further on in a batch element writes in rows 768 to 1023 of its block. -/
theorem outB3 (c : Dev nD) (t : Fin cfg0.N) (h : ¬t.val % 4 = 0) (y : S1x1024x1024.Idx) (hlo : 768 ≤ (y 1).val) (hhi : (y 1).val < 1024) :
    (outsAt0 (F := Ideal) m c t.val t.isLt).1 y
      = ffnRow (fun d => iblk m c 0 t (ix3 0 (y 1) d)) (rowMul (fun d => iblk m c 0 t (ix3 0 (y 1) d)) (fun k f => iblk m c 1 t (ix2 k f)))
          (prevRow (fun p f => (outsAt0 (F := Ideal) m c (t.val - 1) (by have := t.isLt; omega)).2 (ix2 p f)) (fun r d => iblk m c 0 t (ix3 0 r d)) (fun k f => iblk m c 1 t (ix2 k f)) 7 (by decide) (y 1))
          (prevRow (fun p f => (outsAt0 (F := Ideal) m c (t.val - 1) (by have := t.isLt; omega)).2 (ix2 p f)) (fun r d => iblk m c 0 t (ix3 0 r d)) (fun k f => iblk m c 1 t (ix2 k f)) 6 (by decide) (y 1))
          (rowMul (fun d => iblk m c 0 t (ix3 0 (y 1) d)) (fun k f => iblk m c 2 t (ix2 k f)))
          (fun i f => iblk m c 3 t (ix2 i f)) (fun f => iblk m c 4 t (ix2 0 f)) (fun f d => iblk m c 5 t (ix2 f d))
          (fun d => iblk m c 6 t (ix2 0 d)) (fun d => iblk m c 7 t (ix2 0 d)) (y 2) := by
  rw [outsAt0_B m c t h]
  frame_open
  simp (disch := decide) only [↓ View.readCov_skip, ↓ View.readCov_cons_toLoadRect, ↓ View.readCov_fill]
  frame_out
  canon_tiles x h
  case piece0 =>
    have hy1 : y 1 = ⟨768 + (x 1).val, by omega⟩ := Fin.ext h1
    have hy2 : y 2 = x 2 := Fin.ext h2
    have e7 : prevRow (fun p f => (outsAt0 (F := Ideal) m c (t.val - 1) (by have := t.isLt; omega)).2 (ix2 p f)) (fun r d => iblk m c 0 t (ix3 0 r d)) (fun k f => iblk m c 1 t (ix2 k f)) 7 (by decide) (y 1)
        = fun f => if hr : (x 1).val + 7 < 8 then rowMul (fun d => iblk m c 0 t (ix3 0 ⟨512 + (248 + ((x 1).val + 7)), by omega⟩ d)) (fun k f => iblk m c 1 t (ix2 k f)) f
            else rowMul (fun d => iblk m c 0 t (ix3 0 ⟨768 + ((x 1).val + 7 - 8), by omega⟩ d)) (fun k f => iblk m c 1 t (ix2 k f)) f := by
      rw [hy1]
      funext f
      exact prevRow_mid' _ _ _ _ _ 768 512 rfl (x 1) _ f
    rw [e7]
    have e6 : prevRow (fun p f => (outsAt0 (F := Ideal) m c (t.val - 1) (by have := t.isLt; omega)).2 (ix2 p f)) (fun r d => iblk m c 0 t (ix3 0 r d)) (fun k f => iblk m c 1 t (ix2 k f)) 6 (by decide) (y 1)
        = fun f => if hr : (x 1).val + 6 < 8 then rowMul (fun d => iblk m c 0 t (ix3 0 ⟨512 + (248 + ((x 1).val + 6)), by omega⟩ d)) (fun k f => iblk m c 1 t (ix2 k f)) f
            else rowMul (fun d => iblk m c 0 t (ix3 0 ⟨768 + ((x 1).val + 6 - 8), by omega⟩ d)) (fun k f => iblk m c 1 t (ix2 k f)) f := by
      rw [hy1]
      funext f
      exact prevRow_mid' _ _ _ _ _ 768 512 rfl (x 1) _ f
    rw [e6]
    rw [hy1, hy2]
    delta LoadRect.valAlong
    simp (disch := decide) only [Cert.SlotRead.readCov_slot (Val := Elt Ideal) (e := .f32), Cert.SlotRead.slotCol_reshape]
    open_payloads
    try simp only [read_unread_whole]
    set_option backward.isDefEq.respectTransparency false in
    simp (config := { maxSteps := 2000000 }) only [pointwise, Fin.isValue, Matrix.cons_val_zero, Matrix.cons_val_one, Matrix.cons_val_fin_one, Matrix.cons_val, Matrix.head_cons,
      ↓reduceDIte, ↓reduceIte, Fin.zero_eta, Fin.mk_one, Fin.mk_zero, Fin.val_zero, Fin.val_one, Fin.val_two, Fin.coe_ofNat_eq_mod, Fin.val_mk, Fin.cast_mk, Fin.val_cast,
      Fin.cast_eq_self, OfNat.ofNat_ne_one, OfNat.ofNat_ne_zero, Nat.reduceMod, Nat.reduceSub, Nat.reduceAdd, Nat.reduceMul, Nat.reduceEqDiff, Nat.add_zero, Nat.zero_add,
      Nat.mul_one, Nat.one_mul, Nat.mul_zero, Nat.zero_mul, Nat.zero_mod, Nat.sub_zero, Fin.reduceEq, Fin.reduceNe, BitVec.reduceToNat, Nat.div_one, Nat.mod_one, zero_add,
      add_zero, mul_one, one_mul, sub_zero, Cert.SlotRead.slotCol_ix3, Cert.SlotRead.shiftRows, ffnRow, layerNorm, mean, ffSum, ffBlock, ffTerm, gelu, rowMul]
  all_goals
    exfalso
    omega

end Cert.FfnIdeal.Block

end
-- ==== Proof.FfnTail.lean ====
/- Hand-written, untrusted: the eight gate rows that a grid point of the feed-forward call keeps for the next one. -/
module

public import proofs.«01_k».proof.Proof.Gen.FfnIdeal.Value
public import Idealize.ShloMosaic.Lib.Pipeline.ValueKit
public import Idealize.ShloMosaic.Lib.Pipeline.ReadBack
public import proofs.«01_k».proof.Proof.FfnMath
public import proofs.«01_k».proof.Proof.SlotRead

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

/-- The columns stored last, 256 at a time from the right: a column at or past `b` is read from this store, an earlier one from those under it. -/
theorem tail_step (b : ℕ) (inb : ∀ i, (![0, b] : Fin 2 → ℕ) i + (![8, 256] : Fin 2 → ℕ) i ≤ S8x2816.size i)
    (w : (Rect.unit (s := S8x2816) ![0, b] ![8, 256] inb).shape.Idx → Elt Ideal .f32) (L : List (View.Piece (Elt Ideal) S8x2816 .f32)) (y : S8x2816.Idx)
    (hy : (y 1).val < b + 256) (G : Fin 8 → Fin 2816 → EReal) (hb : b + 256 ≤ 2816)
    (hw : ∀ (p : Fin 8) (l : Fin 256), w (ix2 p l) = G p ⟨b + l.val, by omega⟩)
    (hL : (y 1).val < b → View.canon L y = G (y 0) (y 1)) :
    View.canon (⟨Rect.unit (s := S8x2816) ![0, b] ![8, 256] inb, w⟩ :: L) y = G (y 0) (y 1) := by
  have hy0 : (y 0).val < 8 := (y 0).isLt
  by_cases h : (y 1).val < b
  · exact (View.canon_cons_of_not_mem _ L (Rect.not_mem_set_of_axis _ y (1 : Fin 2) b 256 rfl rfl rfl (.inl h))).trans (hL h)
  · have hx : (Rect.unit (s := S8x2816) ![0, b] ![8, 256] inb).emb (ix2 (⟨(y 0).val, hy0⟩ : Fin 8) (⟨(y 1).val - b, by omega⟩ : Fin 256)) = y := by
      apply Rect.emb_eq_of_coords
      intro i
      fin_cases i
      · show (y 0).val = 0 + 1 * (y 0).val
        omega
      · show (y 1).val = b + 1 * ((y 1).val - b)
        omega
    refine (congrArg (View.canon _) hx.symm).trans ?_
    refine (View.canon_cons_emb (Rect.unit (s := S8x2816) ![0, b] ![8, 256] inb) _ L _).trans ?_
    refine (hw _ _).trans ?_
    exact congrArg (G _) (Fin.ext (by show b + ((y 1).val - b) = (y 1).val; omega))

set_option maxHeartbeats 8000000 in
/-- The first point of a batch element leaves for the next one the gate's last eight rows of its block. -/
theorem tailA (c : Dev nD) (t : Fin cfg0.N) (h : t.val % 4 = 0) (y : S8x2816.Idx) :
    (outsAt0 (F := Ideal) m c t.val t.isLt).2 y
      = rowMul (fun d => iblk m c 0 t (ix3 0 ⟨768 + (248 + (y 0).val), by have : (y 0).val < 8 := (y 0).isLt; omega⟩ d)) (fun k f => iblk m c 1 t (ix2 k f)) (y 1) := by
  have hy1 : (y 1).val < 2560 + 256 := (y 1).isLt
  rw [outsAt0_A m c t h]
  frame_open
  simp (disch := decide) only [↓ View.readCov_skip, ↓ View.readCov_cons_toLoadRect, ↓ View.readCov_fill]
  frame_out
  refine tail_step 2560 _ _ _ y hy1 (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 2304 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 2048 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1792 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1536 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1280 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1024 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 768 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 512 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 256 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 0 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  exact absurd hy (Nat.not_lt_zero _)

set_option maxHeartbeats 8000000 in
/-- A later point leaves for the next one the gate's last eight rows of its block, as the first one does. -/
theorem tailB (c : Dev nD) (t : Fin cfg0.N) (h : ¬t.val % 4 = 0) (y : S8x2816.Idx) :
    (outsAt0 (F := Ideal) m c t.val t.isLt).2 y
      = rowMul (fun d => iblk m c 0 t (ix3 0 ⟨768 + (248 + (y 0).val), by have : (y 0).val < 8 := (y 0).isLt; omega⟩ d)) (fun k f => iblk m c 1 t (ix2 k f)) (y 1) := by
  have hy1 : (y 1).val < 2560 + 256 := (y 1).isLt
  rw [outsAt0_B m c t h]
  frame_open
  simp (disch := decide) only [↓ View.readCov_skip, ↓ View.readCov_cons_toLoadRect, ↓ View.readCov_fill]
  frame_out
  refine tail_step 2560 _ _ _ y hy1 (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 2304 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 2048 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1792 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1536 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1280 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 1024 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 768 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 512 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 256 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  refine tail_step 0 _ _ _ y hy (fun p f => rowMul (fun d => iblk m c 0 t (ix3 0 ⟨768 + (248 + p.val), by omega⟩ d)) (fun k f => iblk m c 1 t (ix2 k f)) f) (by decide) ?_ fun hy => ?_
  · intro p l
    open_payloads
    pointwise [rowMul]
  exact absurd hy (Nat.not_lt_zero _)

end Cert.FfnIdeal.Block

end
-- ==== Proof.FfnWindows.lean ====
/- Hand-written, untrusted: what the feed-forward call's windows hold at each grid point, in terms of the arguments. -/
module

public import proofs.«01_k».proof.Proof.Gen.FfnIdeal.Value
public import Idealize.ShloMosaic.Lib.Pipeline.ValueKit

@[expose] public section

set_option maxRecDepth 16384

noncomputable section

namespace Cert.FfnIdeal.Block

open Cert.FfnIdeal Cert.FfnIdeal.Gen Idealize.ShloMosaic Idealize.ShloMosaic.TcCoe Idealize.SL.Sem

variable (m : (ℓ : Loc nD τ sig) → Buf (Elt Ideal) ℓ)

/-- Which block of its array each window is at, at each grid point. -/
theorem idx : ∀ t : Fin cfg0.N, win0_0.index t = ![t.val / 4, t.val % 4, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val / 4, t.val % 4, 0] :=
  (by decide +kernel : ∀ t : Fin grid0.N, _)

/-- There are sixteen grid points. -/
theorem lt16 (t : Fin cfg0.N) : t.val < 16 := t.isLt

set_option maxHeartbeats 1600000 in
/-- The input's block: rows `1024 (t % 4)` on of batch element `t / 4`. -/
theorem win0 (c : Dev nD) (t : Fin cfg0.N) (r d : Fin 1024) :
    iblk m c 0 t (ix3 0 r d) = m ((c : Thread nD τ).loc main_arg0) (ix3 (⟨t.val / 4, by have := lt16 t; omega⟩ : Fin 4) (⟨1024 * (t.val % 4) + r.val, by omega⟩ : Fin 4096) d) := by
  have ht := lt16 t
  blk_point [iblk, V, idx t]

set_option maxHeartbeats 1600000 in
/-- The gate's weights. -/
theorem win1 (c : Dev nD) (t : Fin cfg0.N) (k : Fin 1024) (f : Fin 2816) : iblk m c 1 t (ix2 k f) = m ((c : Thread nD τ).loc main_arg1) (ix3 0 k f) := by
  blk_point [iblk, V, idx t]

set_option maxHeartbeats 1600000 in
/-- The up projection's weights. -/
theorem win2 (c : Dev nD) (t : Fin cfg0.N) (k : Fin 1024) (f : Fin 2816) : iblk m c 2 t (ix2 k f) = m ((c : Thread nD τ).loc main_arg2) (ix3 0 k f) := by
  blk_point [iblk, V, idx t]

set_option maxHeartbeats 1600000 in
/-- The convolution's weights. -/
theorem win3 (c : Dev nD) (t : Fin cfg0.N) (k : Fin 3) (f : Fin 2816) : iblk m c 3 t (ix2 k f) = m ((c : Thread nD τ).loc main_arg3) (ix3 0 k f) := by
  blk_point [iblk, V, idx t]

set_option maxHeartbeats 1600000 in
/-- The convolution's bias. -/
theorem win4 (c : Dev nD) (t : Fin cfg0.N) (f : Fin 2816) : iblk m c 4 t (ix2 0 f) = m ((c : Thread nD τ).loc main_arg4) (ix2 0 f) := by
  blk_point [iblk, V, idx t]

set_option maxHeartbeats 1600000 in
/-- The down projection's weights. -/
theorem win5 (c : Dev nD) (t : Fin cfg0.N) (f : Fin 2816) (d : Fin 1024) : iblk m c 5 t (ix2 f d) = m ((c : Thread nD τ).loc main_arg5) (ix3 0 f d) := by
  blk_point [iblk, V, idx t]

set_option maxHeartbeats 1600000 in
/-- The layer norm's gain. -/
theorem win6 (c : Dev nD) (t : Fin cfg0.N) (d : Fin 1024) : iblk m c 6 t (ix2 0 d) = m ((c : Thread nD τ).loc main_arg6) (ix2 0 d) := by
  blk_point [iblk, V, idx t]

set_option maxHeartbeats 1600000 in
/-- The layer norm's bias. -/
theorem win7 (c : Dev nD) (t : Fin cfg0.N) (d : Fin 1024) : iblk m c 7 t (ix2 0 d) = m ((c : Thread nD τ).loc main_arg7) (ix2 0 d) := by
  blk_point [iblk, V, idx t]

end Cert.FfnIdeal.Block

end
-- ==== Proof.FfnSum.lean ====
/- Hand-written, untrusted: the feed-forward layer on whole sequences, and its sum over the hidden units taken block after block. -/
module

public import proofs.«01_k».proof.Proof.FfnMath

@[expose] public section

set_option maxRecDepth 16384

noncomputable section

namespace Cert.FfnMath

open Cert.RowMath Idealize.ShloMosaic

/-- The first `n + 256` hidden units are the first `n` and a block of 256. -/
theorem sum_split (t : Fin 2816 → EReal) (n k : ℕ) (hk : k = n + 256) (hb : n + 256 ≤ 2816) :
    (∑ f : Fin k, t ⟨f.val, by omega⟩) = (∑ f : Fin n, t ⟨f.val, by omega⟩) + ffBlock t n hb := by
  subst hk
  exact Fin.sum_univ_add _

/-- The sum over the hidden units is the sum of the eleven blocks. -/
theorem sum_eq_ffSum (t : Fin 2816 → EReal) : (∑ f, t f) = ffSum t := by
  show (∑ f : Fin 2816, t ⟨f.val, by omega⟩) = ffSum t
  rw [sum_split t 2560 2816 rfl (by decide), sum_split t 2304 2560 rfl (by decide), sum_split t 2048 2304 rfl (by decide),
    sum_split t 1792 2048 rfl (by decide), sum_split t 1536 1792 rfl (by decide), sum_split t 1280 1536 rfl (by decide),
    sum_split t 1024 1280 rfl (by decide), sum_split t 768 1024 rfl (by decide), sum_split t 512 768 rfl (by decide),
    sum_split t 256 512 rfl (by decide)]
  rfl

/-- The gate's row `8 - o` before position `s` of a sequence `h`: zero before the sequence's start. -/
def prevAt (h : Fin 4096 → Fin 1024 → EReal) (wg : Fin 1024 → Fin 2816 → EReal) (o : ℕ) (ho : o ≤ 8) (s : Fin 4096) (f : Fin 2816) : EReal :=
  if hs : s.val + o < 8 then 0 else rowMul (h ⟨s.val + o - 8, by omega⟩) wg f

/-- A block's previous rows are the sequence's, once the eight rows before the block are. -/
theorem prevRow_at (H : Fin 4096 → Fin 1024 → EReal) (wg : Fin 1024 → Fin 2816 → EReal) (q : ℕ) (hq : q < 4) (T : Fin 8 → Fin 2816 → EReal)
    (hT : ∀ (p : Fin 8) (f : Fin 2816), T p f = if h : q = 0 then 0 else rowMul (H ⟨1024 * q + p.val - 8, by omega⟩) wg f)
    (o : ℕ) (ho : o ≤ 8) (R : Fin 1024) (f : Fin 2816) :
    prevRow T (fun r d => H ⟨1024 * q + r.val, by omega⟩ d) wg o ho R f = prevAt H wg o ho ⟨1024 * q + R.val, by omega⟩ f := by
  unfold prevRow prevAt
  by_cases hR : R.val + o < 8
  · rw [dif_pos hR, hT]
    by_cases h : q = 0
    · rw [dif_pos h, dif_pos (show 1024 * q + R.val + o < 8 by omega)]
    · rw [dif_neg h, dif_neg (show ¬ 1024 * q + R.val + o < 8 by omega)]
      exact congrArg (fun i => rowMul (H i) wg f) (Fin.ext (by show 1024 * q + (R.val + o) - 8 = 1024 * q + R.val + o - 8; omega))
  · rw [dif_neg hR, dif_neg (show ¬ 1024 * q + R.val + o < 8 by omega)]
    exact congrArg (fun i => rowMul (H i) wg f) (Fin.ext (by show 1024 * q + (R.val + o - 8) = 1024 * q + R.val + o - 8; omega))

/-- Row `R` of a block's result, `T` the eight gate rows before the block. -/
def blockRow (T : Fin 8 → Fin 2816 → EReal) (h : Fin 1024 → Fin 1024 → EReal) (wg wu : Fin 1024 → Fin 2816 → EReal) (cw : Fin 3 → Fin 2816 → EReal)
    (cb : Fin 2816 → EReal) (wd : Fin 2816 → Fin 1024 → EReal) (lg lb : Fin 1024 → EReal) (R : Fin 1024) : Fin 1024 → EReal :=
  ffnRow (h R) (rowMul (h R) wg) (prevRow T h wg 7 (by decide) R) (prevRow T h wg 6 (by decide) R) (rowMul (h R) wu) cw cb wd lg lb

/-- Entry `k` of the layer's result at position `s` of batch element `i`. -/
def ffnAt (h : Fin 4 → Fin 4096 → Fin 1024 → EReal) (wg wu : Fin 1024 → Fin 2816 → EReal) (cw : Fin 3 → Fin 2816 → EReal) (cb : Fin 2816 → EReal)
    (wd : Fin 2816 → Fin 1024 → EReal) (lg lb : Fin 1024 → EReal) (i : Fin 4) (s : Fin 4096) (k : Fin 1024) : EReal :=
  ffnRow (h i s) (rowMul (h i s) wg) (prevAt (h i) wg 7 (by decide) s) (prevAt (h i) wg 6 (by decide) s) (rowMul (h i s) wu) cw cb wd lg lb k

/-- A block's rows are the sequence's. -/
theorem blockRow_at (H : Fin 4 → Fin 4096 → Fin 1024 → EReal) (i : Fin 4) (wg wu : Fin 1024 → Fin 2816 → EReal) (cw : Fin 3 → Fin 2816 → EReal)
    (cb : Fin 2816 → EReal) (wd : Fin 2816 → Fin 1024 → EReal) (lg lb : Fin 1024 → EReal) (q : ℕ) (hq : q < 4) (T : Fin 8 → Fin 2816 → EReal)
    (hT : ∀ (p : Fin 8) (f : Fin 2816), T p f = if h : q = 0 then 0 else rowMul (H i ⟨1024 * q + p.val - 8, by omega⟩) wg f) (R k : Fin 1024) :
    blockRow T (fun r d => H i ⟨1024 * q + r.val, by omega⟩ d) wg wu cw cb wd lg lb R k = ffnAt H wg wu cw cb wd lg lb i ⟨1024 * q + R.val, by omega⟩ k := by
  unfold blockRow ffnAt
  rw [show prevRow T (fun r d => H i ⟨1024 * q + r.val, by omega⟩ d) wg 7 (by decide) R = prevAt (H i) wg 7 (by decide) ⟨1024 * q + R.val, by omega⟩ from
      funext fun f => prevRow_at (H i) wg q hq T hT 7 _ R f,
    show prevRow T (fun r d => H i ⟨1024 * q + r.val, by omega⟩ d) wg 6 (by decide) R = prevAt (H i) wg 6 (by decide) ⟨1024 * q + R.val, by omega⟩ from
      funext fun f => prevRow_at (H i) wg q hq T hT 6 _ R f]

end Cert.FfnMath

end
-- ==== Proof.FfnBlock.lean ====
/- Hand-written, untrusted: what one grid point of the feed-forward call writes, all rows together. -/
module

public import proofs.«01_k».proof.Proof.FfnOutA0
public import proofs.«01_k».proof.Proof.FfnOutA1
public import proofs.«01_k».proof.Proof.FfnOutA2
public import proofs.«01_k».proof.Proof.FfnOutA3
public import proofs.«01_k».proof.Proof.FfnOutB0
public import proofs.«01_k».proof.Proof.FfnOutB1
public import proofs.«01_k».proof.Proof.FfnOutB2
public import proofs.«01_k».proof.Proof.FfnOutB3
public import proofs.«01_k».proof.Proof.FfnTail
public import proofs.«01_k».proof.Proof.FfnWindows
public import proofs.«01_k».proof.Proof.FfnSum

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

/-- What a batch element's first point writes. -/
theorem outA (c : Dev nD) (t : Fin cfg0.N) (h : t.val % 4 = 0) (r d : Fin 1024) :
    (outsAt0 (F := Ideal) m c t.val t.isLt).1 (ix3 0 r d)
      = blockRow (fun p f => 0)
          (fun r d => iblk m c 0 t (ix3 0 r d)) (fun k f => iblk m c 1 t (ix2 k f)) (fun k f => iblk m c 2 t (ix2 k f)) (fun j f => iblk m c 3 t (ix2 j f))
          (fun f => iblk m c 4 t (ix2 0 f)) (fun f d => iblk m c 5 t (ix2 f d)) (fun d => iblk m c 6 t (ix2 0 d)) (fun d => iblk m c 7 t (ix2 0 d)) r d := by
  rcases (show r.val < 256 ∨ (256 ≤ r.val ∧ r.val < 512) ∨ (512 ≤ r.val ∧ r.val < 768) ∨ 768 ≤ r.val by omega) with h0 | h0 | h0 | h0
  · exact outA0 m c t h (ix3 0 r d) (Nat.zero_le _) h0
  · exact outA1 m c t h (ix3 0 r d) h0.1 h0.2
  · exact outA2 m c t h (ix3 0 r d) h0.1 h0.2
  · exact outA3 m c t h (ix3 0 r d) h0 r.isLt

/-- What a batch element's later points write. -/
theorem outB (c : Dev nD) (t : Fin cfg0.N) (h : ¬t.val % 4 = 0) (r d : Fin 1024) :
    (outsAt0 (F := Ideal) m c t.val t.isLt).1 (ix3 0 r d)
      = blockRow (fun p f => (outsAt0 (F := Ideal) m c (t.val - 1) (by have := t.isLt; omega)).2 (ix2 p f))
          (fun r d => iblk m c 0 t (ix3 0 r d)) (fun k f => iblk m c 1 t (ix2 k f)) (fun k f => iblk m c 2 t (ix2 k f)) (fun j f => iblk m c 3 t (ix2 j f))
          (fun f => iblk m c 4 t (ix2 0 f)) (fun f d => iblk m c 5 t (ix2 f d)) (fun d => iblk m c 6 t (ix2 0 d)) (fun d => iblk m c 7 t (ix2 0 d)) r d := by
  rcases (show r.val < 256 ∨ (256 ≤ r.val ∧ r.val < 512) ∨ (512 ≤ r.val ∧ r.val < 768) ∨ 768 ≤ r.val by omega) with h0 | h0 | h0 | h0
  · exact outB0 m c t h (ix3 0 r d) (Nat.zero_le _) h0
  · exact outB1 m c t h (ix3 0 r d) h0.1 h0.2
  · exact outB2 m c t h (ix3 0 r d) h0.1 h0.2
  · exact outB3 m c t h (ix3 0 r d) h0 r.isLt

/-- The eight gate rows that a point leaves, in terms of the arguments. -/
theorem tail (c : Dev nD) (t : Fin cfg0.N) (p : Fin 8) (f : Fin 2816) :
    (outsAt0 (F := Ideal) m c t.val t.isLt).2 (ix2 p f)
      = rowMul (fun d => m ((c : Thread nD τ).loc main_arg0) (ix3 (⟨t.val / 4, by have := lt16 t; omega⟩ : Fin 4) (⟨1024 * (t.val % 4) + (768 + (248 + p.val)), by omega⟩ : Fin 4096) d))
          (fun k f => m ((c : Thread nD τ).loc main_arg1) (ix3 0 k f)) f := by
  have e : (outsAt0 (F := Ideal) m c t.val t.isLt).2 (ix2 p f)
      = rowMul (fun d => iblk m c 0 t (ix3 0 ⟨768 + (248 + p.val), by omega⟩ d)) (fun k f => iblk m c 1 t (ix2 k f)) f := by
    by_cases h : t.val % 4 = 0
    · exact tailA m c t h (ix2 p f)
    · exact tailB m c t h (ix2 p f)
  refine e.trans ?_
  rw [show (fun d => iblk m c 0 t (ix3 0 ⟨768 + (248 + p.val), by omega⟩ d)) = _ from funext fun d => win0 m c t ⟨768 + (248 + p.val), by omega⟩ d,
    show (fun k f => iblk m c 1 t (ix2 k f)) = _ from funext fun k => funext fun f => win1 m c t k f]

end Cert.FfnIdeal.Block

end
-- ==== Proof.FfnArray.lean ====
/- Hand-written, untrusted: the array that the feed-forward call leaves, as one function of the arguments. -/
module

public import proofs.«01_k».proof.Proof.FfnBlock

@[expose] public section

set_option maxRecDepth 16384

noncomputable section

namespace Cert.FfnIdeal.Block

open Cert.FfnIdeal Cert.FfnIdeal.Gen Cert.RowMath Cert.FfnMath Idealize.ShloMosaic Idealize.ShloMosaic.TcCoe Idealize.SL.Sem

variable (m : (ℓ : Loc nD τ sig) → Buf (Elt Ideal) ℓ)

/-- The result as a function of the arguments: `ffnAt` of them at each index. -/
def W (c : Dev nD) : FVec Ideal S4x4096x1024 .f32 := fun y =>
  ffnAt (fun i s d => m ((c : Thread nD τ).loc main_arg0) (ix3 i s d)) (fun k f => m ((c : Thread nD τ).loc main_arg1) (ix3 0 k f))
    (fun k f => m ((c : Thread nD τ).loc main_arg2) (ix3 0 k f)) (fun j f => m ((c : Thread nD τ).loc main_arg3) (ix3 0 j f))
    (fun f => m ((c : Thread nD τ).loc main_arg4) (ix2 0 f)) (fun f d => m ((c : Thread nD τ).loc main_arg5) (ix3 0 f d))
    (fun d => m ((c : Thread nD τ).loc main_arg6) (ix2 0 d)) (fun d => m ((c : Thread nD τ).loc main_arg7) (ix2 0 d)) (y 0) (y 1) (y 2)

/-- A point's rows are rows of `W`, once the eight gate rows it starts from are those before its block. -/
theorem row_eq (c : Dev nD) (t : Fin cfg0.N) (T : Fin 8 → Fin 2816 → EReal)
    (hT : ∀ (p : Fin 8) (f : Fin 2816), T p f = if h : t.val % 4 = 0 then 0
      else rowMul (fun d => m ((c : Thread nD τ).loc main_arg0) (ix3 (⟨t.val / 4, by have := lt16 t; omega⟩ : Fin 4) (⟨1024 * (t.val % 4) + p.val - 8, by omega⟩ : Fin 4096) d))
        (fun k f => m ((c : Thread nD τ).loc main_arg1) (ix3 0 k f)) f) (r d : Fin 1024) :
    blockRow T (fun r d => iblk m c 0 t (ix3 0 r d)) (fun k f => iblk m c 1 t (ix2 k f)) (fun k f => iblk m c 2 t (ix2 k f)) (fun j f => iblk m c 3 t (ix2 j f))
          (fun f => iblk m c 4 t (ix2 0 f)) (fun f d => iblk m c 5 t (ix2 f d)) (fun d => iblk m c 6 t (ix2 0 d)) (fun d => iblk m c 7 t (ix2 0 d)) r d
      = W m c (ix3 (⟨t.val / 4, by have := lt16 t; omega⟩ : Fin 4) (⟨1024 * (t.val % 4) + r.val, by omega⟩ : Fin 4096) d) := by
  rw [show (fun r d => iblk m c 0 t (ix3 0 r d)) = _ from funext fun r => funext fun d => win0 m c t r d,
    show (fun k f => iblk m c 1 t (ix2 k f)) = _ from funext fun k => funext fun f => win1 m c t k f,
    show (fun k f => iblk m c 2 t (ix2 k f)) = _ from funext fun k => funext fun f => win2 m c t k f,
    show (fun k f => iblk m c 3 t (ix2 k f)) = _ from funext fun k => funext fun f => win3 m c t k f,
    show (fun f => iblk m c 4 t (ix2 0 f)) = _ from funext fun f => win4 m c t f,
    show (fun f d => iblk m c 5 t (ix2 f d)) = _ from funext fun f => funext fun d => win5 m c t f d,
    show (fun d => iblk m c 6 t (ix2 0 d)) = _ from funext fun d => win6 m c t d,
    show (fun d => iblk m c 7 t (ix2 0 d)) = _ from funext fun d => win7 m c t d]
  exact blockRow_at (fun i s d => m ((c : Thread nD τ).loc main_arg0) (ix3 i s d)) ⟨t.val / 4, by have := lt16 t; omega⟩ _ _ _ _ _ _ _ (t.val % 4) (by omega) T hT r d

/-- What a point writes is its block of `W`. -/
theorem point (c : Dev nD) (t : Fin cfg0.N) (r d : Fin 1024) :
    (outsAt0 (F := Ideal) m c t.val t.isLt).1 (ix3 0 r d)
      = W m c (ix3 (⟨t.val / 4, by have := lt16 t; omega⟩ : Fin 4) (⟨1024 * (t.val % 4) + r.val, by omega⟩ : Fin 4096) d) := by
  have ht := lt16 t
  by_cases h : t.val % 4 = 0
  · exact (outA m c t h r d).trans (row_eq m c t _ (fun p f => by rw [dif_pos h]) r d)
  · refine (outB m c t h r d).trans (row_eq m c t _ (fun p f => ?_) r d)
    rw [dif_neg h]
    refine (tail m c ⟨t.val - 1, by have := t.isLt; omega⟩ p f).trans ?_
    have ei : ∀ (i i' : Fin 4) (s s' : Fin 4096) (d : Fin 1024), i = i' → s = s' →
        m ((c : Thread nD τ).loc main_arg0) (ix3 i s d) = m ((c : Thread nD τ).loc main_arg0) (ix3 i' s' d) := by
      intro i i' s s' d e e'
      rw [e, e']
    refine congrArg (fun z => rowMul z _ f) (funext fun d => ei _ _ _ _ d (Fin.ext ?_) (Fin.ext ?_))
    · show (t.val - 1) / 4 = t.val / 4
      omega
    · show 1024 * ((t.val - 1) % 4) + (768 + (248 + p.val)) = 1024 * (t.val % 4) + p.val - 8
      omega

set_option maxHeartbeats 1600000 in
/-- The array after the run is `W`. -/
theorem final (c : Dev nD) : (dats m 0 c).arrAt 8 cfg0.N = W m c := by
  refine (dats m 0 c).arrAt_eq_of_covers 8 _ (by decide +kernel) fun t _ y => ?_
  have ht := lt16 t
  blk_simp
  rw [after0_8]
  idx_vars y
  have h0 : y0 = 0 := Subsingleton.elim _ _
  subst h0
  refine (point m c t _ _).trans (congrArg (W m c) ?_)
  blk_ext [idx t]

end Cert.FfnIdeal.Block

end
-- ==== Proof.FfnRef.lean ====
/- Hand-written, untrusted: the feed-forward reference's result as the same function of the arguments as the kernel's. -/
module

public import proofs.«01_k».proof.Proof.Gen.FfnRefIdeal.Read
public import Idealize.ShloMosaic.Lib.Pipeline.ValueKit
public import Idealize.ShloMosaic.Lib.Tactic.CleanTypes
public import proofs.«01_k».proof.Proof.FfnSum

@[expose] public section

set_option maxRecDepth 16384

noncomputable section

namespace Cert.FfnRefIdeal.Closed

open Cert.FfnRefIdeal Cert.FfnRefIdeal.Value Cert.FfnRefIdeal.Read Cert.RowMath Cert.FfnMath Idealize.ShloMosaic Idealize.ShloMosaic.TcCoe Idealize.SL.Sem

variable (m : (ℓ : Loc nD τ sig) → Buf (Elt Ideal) ℓ)

set_option maxHeartbeats 1600000 in
/-- The gate with two rows of zeros before it. -/
theorem pad_apply (x0 : FVec Ideal S4x4096x1024 .f32) (x1 : FVec Ideal S1x1024x2816 .f32) (i : Fin 4) (s : Fin 4098) (f : Fin 2816) :
    val_main_v4 (F := Ideal) x0 x1 (ix3 i s f)
      = if hs : s.val < 2 then 0 else rowMul (fun d => x0 (ix3 i ⟨s.val - 2, by omega⟩ d)) (fun k f => x1 (ix3 0 k f)) f := by
  unfold val_main_v4 val_main_call0_v0 val_main_c val_main_v1 val_main_v0
  clean_types
  pointwise [rowMul]
  have hz : (FloatOps.sitofp FTy.f32 0#32 : Ideal FTy.f32) = 0 := by
    show (((0#32 : BitVec 32).toInt : ℝ) : EReal) = 0
    simp
  by_cases hs : s.val < 2
  · rw [dif_neg (by omega), dif_pos hs, hz]
  · rw [dif_pos (by omega), dif_neg hs]

set_option maxHeartbeats 1600000 in
/-- The gate's convolution along the sequence, with its bias. -/
theorem conv_apply (x0 : FVec Ideal S4x4096x1024 .f32) (x1 : FVec Ideal S1x1024x2816 .f32) (x3 : FVec Ideal S1x3x2816 .f32) (x4 : FVec Ideal S1x2816 .f32)
    (i : Fin 4) (s : Fin 4096) (f : Fin 2816) :
    val_main_v27 (F := Ideal) x0 x1 x3 x4 (ix3 i s f)
      = val_main_v4 (F := Ideal) x0 x1 (ix3 i ⟨s.val, by omega⟩ f) * x3 (ix3 0 0 f) + val_main_v4 (F := Ideal) x0 x1 (ix3 i ⟨1 + s.val, by omega⟩ f) * x3 (ix3 0 1 f)
        + val_main_v4 (F := Ideal) x0 x1 (ix3 i ⟨2 + s.val, by omega⟩ f) * x3 (ix3 0 2 f) + x4 (ix2 0 f) := by
  unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v3 val_main_v2
  generalize val_main_v4 (F := Ideal) x0 x1 = z
  clean_types
  pointwise

set_option maxHeartbeats 1600000 in
/-- The rows that the reference normalises. -/
theorem row_apply (x0 : FVec Ideal S4x4096x1024 .f32) (x1 x2 : FVec Ideal S1x1024x2816 .f32) (x3 : FVec Ideal S1x3x2816 .f32) (x4 : FVec Ideal S1x2816 .f32)
    (x5 : FVec Ideal S1x2816x1024 .f32) (i : Fin 4) (s : Fin 4096) (k : Fin 1024) :
    val_main_v48 (F := Ideal) x0 x1 x2 x3 x4 x5 (ix3 i s k)
      = Ideal.ofBits .f32 1066940400#32 * x0 (ix3 i s k)
        + ∑ f, gelu (val_main_v27 (F := Ideal) x0 x1 x3 x4 (ix3 i s f)) * rowMul (fun d => x0 (ix3 i s d)) (fun k f => x2 (ix3 0 k f)) f * x5 (ix3 0 f k) := by
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_cst val_main_cst_0 val_main_cst_1 val_main_cst_2 val_main_cst_3
  generalize val_main_v27 (F := Ideal) x0 x1 x3 x4 = z
  clean_types
  pointwise! [rowMul, gelu]

set_option maxHeartbeats 1600000 in
/-- The layer norm of them. -/
theorem norm_apply (x0 : FVec Ideal S4x4096x1024 .f32) (x1 x2 : FVec Ideal S1x1024x2816 .f32) (x3 : FVec Ideal S1x3x2816 .f32) (x4 : FVec Ideal S1x2816 .f32)
    (x5 : FVec Ideal S1x2816x1024 .f32) (x6 x7 : FVec Ideal S1x1024 .f32) (i : Fin 4) (s : Fin 4096) (k : Fin 1024) :
    val_main_v74 (F := Ideal) x0 x1 x2 x3 x4 x5 x6 x7 (ix3 i s k)
      = layerNorm (fun d => val_main_v48 (F := Ideal) x0 x1 x2 x3 x4 x5 (ix3 i s d)) (fun d => x6 (ix2 0 d)) (fun d => x7 (ix2 0 d)) k := by
  unfold val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_cst_4 val_main_cst_5 val_main_cst_6 val_main_cst_7 val_main_cst_8
  generalize val_main_v48 (F := Ideal) x0 x1 x2 x3 x4 x5 = z
  clean_types
  pointwise [layerNorm, mean]

/-- A row of the padded gate is the gate's row two positions before, zero before the sequence's start. -/
theorem pad_prev (x0 : FVec Ideal S4x4096x1024 .f32) (x1 : FVec Ideal S1x1024x2816 .f32) (i : Fin 4) (s : Fin 4096) (j o : ℕ) (ho : o ≤ 8) (hj : j + 6 = o)
    (hp : j + s.val < 4098) (f : Fin 2816) :
    val_main_v4 (F := Ideal) x0 x1 (ix3 i ⟨j + s.val, hp⟩ f) = prevAt (fun s d => x0 (ix3 i s d)) (fun k f => x1 (ix3 0 k f)) o ho s f := by
  rw [pad_apply]
  unfold prevAt
  by_cases h : j + s.val < 2
  · rw [dif_pos h, dif_pos (by omega)]
  · rw [dif_neg h, dif_neg (by omega)]
    exact congrArg (fun r => rowMul (fun d => x0 (ix3 i r d)) (fun k f => x1 (ix3 0 k f)) f) (Fin.ext (by show j + s.val - 2 = s.val + o - 8; omega))

/-- The convolution in terms of the gate's rows. -/
theorem conv_eq (x0 : FVec Ideal S4x4096x1024 .f32) (x1 : FVec Ideal S1x1024x2816 .f32) (x3 : FVec Ideal S1x3x2816 .f32) (x4 : FVec Ideal S1x2816 .f32)
    (i : Fin 4) (s : Fin 4096) (f : Fin 2816) :
    val_main_v27 (F := Ideal) x0 x1 x3 x4 (ix3 i s f)
      = rowMul (fun d => x0 (ix3 i s d)) (fun k f => x1 (ix3 0 k f)) f * x3 (ix3 0 2 f)
        + prevAt (fun s d => x0 (ix3 i s d)) (fun k f => x1 (ix3 0 k f)) 7 (by decide) s f * x3 (ix3 0 1 f)
        + prevAt (fun s d => x0 (ix3 i s d)) (fun k f => x1 (ix3 0 k f)) 6 (by decide) s f * x3 (ix3 0 0 f) + x4 (ix2 0 f) := by
  have e0 : val_main_v4 (F := Ideal) x0 x1 (ix3 i ⟨s.val, by omega⟩ f) = prevAt (fun s d => x0 (ix3 i s d)) (fun k f => x1 (ix3 0 k f)) 6 (by decide) s f :=
    (congrArg (fun r => val_main_v4 (F := Ideal) x0 x1 (ix3 i r f)) (Fin.ext (Nat.zero_add s.val).symm)).trans (pad_prev x0 x1 i s 0 6 (by decide) rfl (by omega) f)
  have e1 := pad_prev x0 x1 i s 1 7 (by decide) rfl (by omega) f
  have e2 := pad_apply x0 x1 i ⟨2 + s.val, by omega⟩ f
  rw [dif_neg (show ¬ (2 + s.val < 2) by omega)] at e2
  have e2' : val_main_v4 (F := Ideal) x0 x1 (ix3 i ⟨2 + s.val, by omega⟩ f) = rowMul (fun d => x0 (ix3 i s d)) (fun k f => x1 (ix3 0 k f)) f :=
    e2.trans (congrArg (fun r => rowMul (fun d => x0 (ix3 i r d)) (fun k f => x1 (ix3 0 k f)) f) (Fin.ext (by show 2 + s.val - 2 = s.val; omega)))
  rw [conv_apply, e0, e1, e2']
  ac_rfl

/-- The result as a function of the arguments: `ffnAt` of them at each index. -/
def W (c : Dev nD) : FVec Ideal S4x4096x1024 .f32 := fun y =>
  ffnAt (fun i s d => m ((c.tc : Thread nD τ).loc main_arg0) (ix3 i s d)) (fun k f => m ((c.tc : Thread nD τ).loc main_arg1) (ix3 0 k f))
    (fun k f => m ((c.tc : Thread nD τ).loc main_arg2) (ix3 0 k f)) (fun j f => m ((c.tc : Thread nD τ).loc main_arg3) (ix3 0 j f))
    (fun f => m ((c.tc : Thread nD τ).loc main_arg4) (ix2 0 f)) (fun f d => m ((c.tc : Thread nD τ).loc main_arg5) (ix3 0 f d))
    (fun d => m ((c.tc : Thread nD τ).loc main_arg6) (ix2 0 d)) (fun d => m ((c.tc : Thread nD τ).loc main_arg7) (ix2 0 d)) (y 0) (y 1) (y 2)

set_option maxHeartbeats 1600000 in
/-- The reference's result is `W`. -/
theorem out_eq (c : Dev nD) : res_out0 (F := Ideal) m c = W m c := by
  unfold res_out0
  rw [val_main_v74_eq]
  funext y
  idx_vars y
  refine (norm_apply _ _ _ _ _ _ _ _ _ _ _).trans ?_
  show _ = ffnAt _ _ _ _ _ _ _ _ y0 y1 y2
  unfold ffnAt ffnRow
  refine congrArg (fun z => layerNorm z _ _ y2) (funext fun d => ?_)
  rw [row_apply]
  refine congrArg (fun e : EReal => Ideal.ofBits .f32 1066940400#32 * m ((c.tc : Thread nD τ).loc main_arg0) (ix3 y0 y1 d) + e) ?_
  refine Eq.trans ?_ (sum_eq_ffSum _)
  refine Finset.sum_congr rfl fun f _ => ?_
  rw [conv_eq]
  rfl

end Cert.FfnRefIdeal.Closed

end
-- ==== Proof.FfnEq.lean ====
/- Hand-written, untrusted: the feed-forward call and its reference end with the same array. -/
module

public import proofs.«01_k».proof.Defs
public import proofs.«01_k».proof.Proof.FfnArray
public import proofs.«01_k».proof.Proof.FfnRef

@[expose] public section

noncomputable section

namespace Cert.FfnEq

open Idealize.ShloMosaic Idealize.ShloMosaic.TcCoe Idealize.SL.Sem

/-- From memories that agree on the arguments the two results are the same array. -/
theorem W_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (e0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (e1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (e2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (e3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (e4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (e5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5))
    (e6 : m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6))
    (e7 : m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) :
    Cert.FfnRefIdeal.Closed.W m' c = Cert.FfnIdeal.Block.W m c := by
  unfold Cert.FfnRefIdeal.Closed.W Cert.FfnIdeal.Block.W
  rw [e0, e1, e2, e3, e4, e5, e6, e7]

end Cert.FfnEq

end
-- ==== Proof.FfnAlg.lean ====
/- Hand-written, untrusted: the feed-forward call and its reference, run from memories that agree, end with equal results. -/
module

public import proofs.«01_k».proof.Defs
public import proofs.«01_k».proof.Proof.FfnEq

@[expose] public section

noncomputable section

namespace Cert.FfnEq

open Idealize.ShloMosaic Idealize.ShloMosaic.TcCoe Idealize.SL.Sem

/-- The feed-forward call computes what its reference computes, at every argument. -/
theorem algebraic : Cert.algebraic_FfnIdeal_FfnRefIdeal (hFfnIdeal := Cert.FfnIdeal.Gen.facts) (hFfnRefIdeal := Cert.FfnRefIdeal.Gen.facts) := by
  intro m g m' g' _ hag
  refine ⟨fun c => Cert.FfnIdeal.Block.W m c, ?_, ?_⟩
  · refine (θ_run _ _ _).mono (fun r h c => ?_) (Cert.FfnIdeal.Value.run_blocks (F := Ideal) m g)
    exact ⟨((h c).1).trans (Cert.FfnIdeal.Block.final m c), (h c).2⟩
  · refine (θ_run _ _ _).mono (fun r h c => ?_) (Cert.FfnRefIdeal.Value.run (F := Ideal) m' g')
    obtain ⟨e0, e1, e2, e3, e4, e5, e6, e7⟩ := hag c
    exact ⟨((h c).1).trans ((Cert.FfnRefIdeal.Closed.out_eq m' c).trans (W_eq m m' c e0 e1 e2 e3 e4 e5 e6 e7)), (h c).2⟩

end Cert.FfnEq

end
-- ==== Proof.MixWindows.lean ====
/- Hand-written, untrusted: what the mixer's windows hold at each grid point, in terms of the arguments. -/
module

public import proofs.«01_k».proof.Proof.Gen.MixIdeal.Value
public import Idealize.ShloMosaic.Lib.Pipeline.ValueKit
public import Idealize.ShloMosaic.Lib.Claim

@[expose] public section

set_option maxRecDepth 16384

noncomputable section

namespace Cert.MixIdeal.Block

open Cert.MixIdeal Cert.MixIdeal.Gen Idealize.ShloMosaic Idealize.ShloMosaic.TcCoe Idealize.SL.Sem

variable (m : (ℓ : Loc nD τ sig) → Buf (Elt Ideal) ℓ)

/-- Which block of its array each window is at, at each grid point. -/
theorem idx : ∀ t : Fin cfg0.N, win0_0.index t = ![t.val / 4, t.val % 4, 0] ∧ win0_1.index t = ![0, 0] ∧ win0_4.index t = ![t.val / 4, t.val % 4, 0]
    ∧ win0_5.index t = ![t.val / 4, t.val % 4, 0] ∧ win0_6.index t = ![t.val / 4, t.val % 4, 0, 0] :=
  (by decide +kernel : ∀ t : Fin grid0.N, _)

/-- There are sixteen grid points. -/
theorem lt16 (t : Fin cfg0.N) : t.val < 16 := t.isLt

set_option maxHeartbeats 1600000 in
/-- The input's block: rows `1024 (t % 4)` on of batch element `t / 4`. -/
theorem win0 (c : Dev nD) (t : Fin cfg0.N) (r d : Fin 1024) :
    iblk m c 0 t (ix3 0 r d) = m ((c : Thread nD τ).loc main_arg0) (ix3 (⟨t.val / 4, by have := lt16 t; omega⟩ : Fin 4) (⟨1024 * (t.val % 4) + r.val, by omega⟩ : Fin 4096) d) := by
  have ht := lt16 t
  blk_point [iblk, V, idx t]

set_option maxHeartbeats 1600000 in
/-- The array that the call takes its weights from: a part of the projection's weights, rounded. -/
theorem V_w (c : Dev nD) : V m c main_v14 = (truncf .bf16 (shapeCast S1024x3584 (extractStridedSlice S1x1024x3584 ![0, 0, 0] (m ((c : Thread nD τ).loc main_arg1)) slices_S1x1024x5632_S1x1024x3584_0_0_0) shapeCasts_S1x1024x3584_S1024x3584) bitsLt_bf16_f32 : FVec Ideal S1024x3584 .bf16) := by
  entry_read
  try rfl

set_option maxHeartbeats 1600000 in
/-- The weights that the call takes: the first 3584 columns of the projection's. -/
theorem win1 (c : Dev nD) (t : Fin cfg0.N) (k : Fin 1024) (f : Fin 3584) :
    iblk m c 1 t (ix2 k f) = m ((c : Thread nD τ).loc main_arg1) (ix3 0 k (⟨f.val, by omega⟩ : Fin 5632)) := by
  have e : iblk m c 1 t (ix2 k f) = V m c main_v14 (ix2 k f) := by
    blk_point [iblk, idx t]
  rw [e, V_w]
  pointwise

end Cert.MixIdeal.Block

end
-- ==== Proof.MixMath.lean ====
/- Hand-written, untrusted: the mixer's projections on rows, apart from any program. -/
module

public import proofs.«01_k».proof.Proof.FfnMath

@[expose] public section

noncomputable section

namespace Cert.MixMath

open Cert.FfnMath Idealize.ShloMosaic

/-- A row of the transposed values: for each of the four heads its 128 value columns and then sixteen rows of ones. `x` is the
    position's row of the input and `w` the weights of the values. -/
def vtAt (x : Fin 1024 → EReal) (w : Fin 1024 → Fin 512 → EReal) (r : Fin 576) : EReal :=
  if h : r.val % 144 < 128 then rowMul x w ⟨128 * (r.val / 144) + r.val % 144, by have := r.isLt; omega⟩ else 1

/-- The rows of head `hd` that hold values. -/
theorem vtAt_val (x : Fin 1024 → EReal) (w : Fin 1024 → Fin 512 → EReal) (r : Fin 576) (hd i o : ℕ) (hi : i < 128) (hr : r.val = 144 * hd + i)
    (ho : o = 128 * hd) (hb : o + i < 512) : vtAt x w r = rowMul x w ⟨o + i, hb⟩ := by
  unfold vtAt
  rw [dif_pos (by omega)]
  exact congrArg (rowMul x w) (Fin.ext (by show 128 * (r.val / 144) + r.val % 144 = o + i; omega))

/-- The rows of head `hd` that hold ones. -/
theorem vtAt_one (x : Fin 1024 → EReal) (w : Fin 1024 → Fin 512 → EReal) (r : Fin 576) (hd i : ℕ) (hi : i < 16) (hr : r.val = 144 * hd + 128 + i) :
    vtAt x w r = 1 := by
  unfold vtAt
  rw [dif_neg (by omega)]

/-- The queries: the first 512 columns of the projection, times the scale. -/
def qAt (x : Fin 4 → Fin 4096 → Fin 1024 → EReal) (w : Fin 1024 → Fin 5632 → EReal) (i : Fin 4) (s : Fin 4096) (e : Fin 512) : EReal :=
  rowMul (x i s) (fun k (f : Fin 512) => w k ⟨f.val, by omega⟩) e * Ideal.ofBits .f32 0x3E38AA3B#32

/-- The keys: the next 512 columns. -/
def kAt (x : Fin 4 → Fin 4096 → Fin 1024 → EReal) (w : Fin 1024 → Fin 5632 → EReal) (i : Fin 4) (s : Fin 4096) (e : Fin 512) : EReal :=
  rowMul (x i s) (fun k (f : Fin 512) => w k ⟨512 + f.val, by omega⟩) e

/-- The transposed values: of the next 512 columns, for each block `j` of 256 positions a matrix whose column `p` is the block's position `p`. -/
def vAt (x : Fin 4 → Fin 4096 → Fin 1024 → EReal) (w : Fin 1024 → Fin 5632 → EReal) (i : Fin 4) (j : Fin 16) (r : Fin 576) (p : Fin 256) : EReal :=
  vtAt (x i ⟨256 * j.val + p.val, by omega⟩) (fun k (f : Fin 512) => w k ⟨1024 + f.val, by omega⟩) r

end Cert.MixMath

end
-- ==== Proof.MixOutQ.lean ====
/- Hand-written, untrusted: the mixer's block of queries at each grid point. -/
module

public import proofs.«01_k».proof.Proof.Gen.MixIdeal.Value
public import Idealize.ShloMosaic.Lib.Pipeline.ValueKit
public import Idealize.ShloMosaic.Lib.Pipeline.ReadBack
public import proofs.«01_k».proof.Proof.MixMath

@[expose] public section

set_option maxRecDepth 16384

noncomputable section

namespace Cert.MixIdeal.Block

open Cert.MixIdeal Cert.MixIdeal.Gen Cert.FfnMath Cert.MixMath Idealize.ShloMosaic Idealize.ShloMosaic.TcCoe Idealize.SL.Sem

variable (m : (ℓ : Loc nD τ sig) → Buf (Elt Ideal) ℓ)

set_option maxHeartbeats 8000000 in
/-- What the mixer's body leaves in the block of the queries: a row of the input times the first 512 columns of the weights, times the scale, on a batch entry's first step. -/
theorem qA (c : Dev nD) (t : Fin cfg0.N) (h : t.val % 4 = 0) (y : S1x1024x512.Idx) :
    (outsAt0 (F := Ideal) m c t.val t.isLt).1 y
      = rowMul (fun d => iblk m c 0 t (ix3 0 (y 1) d))
          (fun k (f : Fin 512) => iblk m c 1 t (ix2 k ⟨f.val, by omega⟩)) (y 2) * Ideal.ofBits .f32 0x3E38AA3B#32 := by
  rw [outsAt0_A m c t h]
  frame_open
  frame_out
  canon_tiles x h
  case piece0 =>
    have hy1 : y 1 = ⟨768 + (x 1).val, by omega⟩ := Fin.ext h1
    have hy2 : y 2 = x 2 := Fin.ext h2
    rw [hy1, hy2]
    open_payloads
    pointwise [rowMul]
  case piece1 =>
    have hy1 : y 1 = ⟨512 + (x 1).val, by omega⟩ := Fin.ext h1
    have hy2 : y 2 = x 2 := Fin.ext h2
    rw [hy1, hy2]
    open_payloads
    pointwise [rowMul]
  case piece2 =>
    have hy1 : y 1 = ⟨256 + (x 1).val, by omega⟩ := Fin.ext h1
    have hy2 : y 2 = x 2 := Fin.ext h2
    rw [hy1, hy2]
    open_payloads
    pointwise [rowMul]
  case piece3 =>
    have hy1 : y 1 = ⟨(x 1).val, by omega⟩ := Fin.ext h1
    have hy2 : y 2 = x 2 := Fin.ext h2
    rw [hy1, hy2]
    open_payloads
    pointwise [rowMul]

set_option maxHeartbeats 8000000 in
/-- What the mixer's body leaves in the block of the queries: a row of the input times the first 512 columns of the weights, times the scale, on the other steps. -/
theorem qB (c : Dev nD) (t : Fin cfg0.N) (h : ¬t.val % 4 = 0) (y : S1x1024x512.Idx) :
    (outsAt0 (F := Ideal) m c t.val t.isLt).1 y
      = rowMul (fun d => iblk m c 0 t (ix3 0 (y 1) d))
          (fun k (f : Fin 512) => iblk m c 1 t (ix2 k ⟨f.val, by omega⟩)) (y 2) * Ideal.ofBits .f32 0x3E38AA3B#32 := by
  rw [outsAt0_B m c t h]
  frame_open
  frame_out
  canon_tiles x h
  case piece0 =>
    have hy1 : y 1 = ⟨768 + (x 1).val, by omega⟩ := Fin.ext h1
    have hy2 : y 2 = x 2 := Fin.ext h2
    rw [hy1, hy2]
    open_payloads
    pointwise [rowMul]
  case piece1 =>
    have hy1 : y 1 = ⟨512 + (x 1).val, by omega⟩ := Fin.ext h1
    have hy2 : y 2 = x 2 := Fin.ext h2
    rw [hy1, hy2]
    open_payloads
    pointwise [rowMul]
  case piece2 =>
    have hy1 : y 1 = ⟨256 + (x 1).val, by omega⟩ := Fin.ext h1
    have hy2 : y 2 = x 2 := Fin.ext h2
    rw [hy1, hy2]
    open_payloads
    pointwise [rowMul]
  case piece3 =>
    have hy1 : y 1 = ⟨(x 1).val, by omega⟩ := Fin.ext h1
    have hy2 : y 2 = x 2 := Fin.ext h2
    rw [hy1, hy2]
    open_payloads
    pointwise [rowMul]

end Cert.MixIdeal.Block

end
-- ==== Proof.MixOutK.lean ====
/- Hand-written, untrusted: the mixer's block of keys at each grid point. -/
module

public import proofs.«01_k».proof.Proof.Gen.MixIdeal.Value
public import Idealize.ShloMosaic.Lib.Pipeline.ValueKit
public import Idealize.ShloMosaic.Lib.Pipeline.ReadBack
public import proofs.«01_k».proof.Proof.MixMath

@[expose] public section

set_option maxRecDepth 16384

noncomputable section

namespace Cert.MixIdeal.Block

open Cert.MixIdeal Cert.MixIdeal.Gen Cert.FfnMath Cert.MixMath Idealize.ShloMosaic Idealize.ShloMosaic.TcCoe Idealize.SL.Sem

variable (m : (ℓ : Loc nD τ sig) → Buf (Elt Ideal) ℓ)

set_option maxHeartbeats 8000000 in
/-- What the mixer's body leaves in the block of the keys: a row of the input times the next 512 columns of the weights, on a batch entry's first step. -/
theorem kA (c : Dev nD) (t : Fin cfg0.N) (h : t.val % 4 = 0) (y : S1x1024x512.Idx) :
    (outsAt0 (F := Ideal) m c t.val t.isLt).2.1 y
      = rowMul (fun d => iblk m c 0 t (ix3 0 (y 1) d))
          (fun k (f : Fin 512) => iblk m c 1 t (ix2 k ⟨512 + f.val, by omega⟩)) (y 2) := by
  rw [outsAt0_A m c t h]
  frame_open
  frame_out
  canon_tiles x h
  case piece0 =>
    have hy1 : y 1 = ⟨768 + (x 1).val, by omega⟩ := Fin.ext h1
    have hy2 : y 2 = x 2 := Fin.ext h2
    rw [hy1, hy2]
    open_payloads
    pointwise [rowMul]
  case piece1 =>
    have hy1 : y 1 = ⟨512 + (x 1).val, by omega⟩ := Fin.ext h1
    have hy2 : y 2 = x 2 := Fin.ext h2
    rw [hy1, hy2]
    open_payloads
    pointwise [rowMul]
  case piece2 =>
    have hy1 : y 1 = ⟨256 + (x 1).val, by omega⟩ := Fin.ext h1
    have hy2 : y 2 = x 2 := Fin.ext h2
    rw [hy1, hy2]
    open_payloads
    pointwise [rowMul]
  case piece3 =>
    have hy1 : y 1 = ⟨(x 1).val, by omega⟩ := Fin.ext h1
    have hy2 : y 2 = x 2 := Fin.ext h2
    rw [hy1, hy2]
    open_payloads
    pointwise [rowMul]

set_option maxHeartbeats 8000000 in
/-- What the mixer's body leaves in the block of the keys: a row of the input times the next 512 columns of the weights, on the other steps. -/
theorem kB (c : Dev nD) (t : Fin cfg0.N) (h : ¬t.val % 4 = 0) (y : S1x1024x512.Idx) :
    (outsAt0 (F := Ideal) m c t.val t.isLt).2.1 y
      = rowMul (fun d => iblk m c 0 t (ix3 0 (y 1) d))
          (fun k (f : Fin 512) => iblk m c 1 t (ix2 k ⟨512 + f.val, by omega⟩)) (y 2) := by
  rw [outsAt0_B m c t h]
  frame_open
  frame_out
  canon_tiles x h
  case piece0 =>
    have hy1 : y 1 = ⟨768 + (x 1).val, by omega⟩ := Fin.ext h1
    have hy2 : y 2 = x 2 := Fin.ext h2
    rw [hy1, hy2]
    open_payloads
    pointwise [rowMul]
  case piece1 =>
    have hy1 : y 1 = ⟨512 + (x 1).val, by omega⟩ := Fin.ext h1
    have hy2 : y 2 = x 2 := Fin.ext h2
    rw [hy1, hy2]
    open_payloads
    pointwise [rowMul]
  case piece2 =>
    have hy1 : y 1 = ⟨256 + (x 1).val, by omega⟩ := Fin.ext h1
    have hy2 : y 2 = x 2 := Fin.ext h2
    rw [hy1, hy2]
    open_payloads
    pointwise [rowMul]
  case piece3 =>
    have hy1 : y 1 = ⟨(x 1).val, by omega⟩ := Fin.ext h1
    have hy2 : y 2 = x 2 := Fin.ext h2
    rw [hy1, hy2]
    open_payloads
    pointwise [rowMul]

end Cert.MixIdeal.Block

end
-- ==== Proof.MixOutVA.lean ====
/- Hand-written, untrusted: the mixer's block of transposed values, a batch entry's first step. -/
module

public import proofs.«01_k».proof.Proof.Gen.MixIdeal.Value
public import Idealize.ShloMosaic.Lib.Pipeline.ValueKit
public import Idealize.ShloMosaic.Lib.Pipeline.ReadBack
public import proofs.«01_k».proof.Proof.MixMath

@[expose] public section

set_option maxRecDepth 16384

noncomputable section

namespace Cert.MixIdeal.Block

open Cert.MixIdeal Cert.MixIdeal.Gen Cert.FfnMath Cert.MixMath Idealize.ShloMosaic Idealize.ShloMosaic.TcCoe Idealize.SL.Sem

variable (m : (ℓ : Loc nD τ sig) → Buf (Elt Ideal) ℓ)

set_option maxHeartbeats 16000000 in
/-- What the mixer's body leaves in the block of the transposed values, on a batch entry's first step. -/
theorem vA (c : Dev nD) (t : Fin cfg0.N) (h : t.val % 4 = 0) (y : S1x4x576x256.Idx) (q : Fin 1024) (hq : q.val = 256 * (y 1).val + (y 3).val) :
    (outsAt0 (F := Ideal) m c t.val t.isLt).2.2.1 y
      = vtAt (fun d => iblk m c 0 t (ix3 0 q d)) (fun k (f : Fin 512) => iblk m c 1 t (ix2 k ⟨1024 + f.val, by omega⟩)) (y 2) := by
  rw [outsAt0_A m c t h]
  frame_open
  frame_out
  canon_tiles x h using View.cover_of_tiledBy _ ![1, 1, 16, 256] (by sl_kernel_rfl) _
  case piece0 =>
    rw [vtAt_one _ _ (y 2) 3 (x 2).val x2_lt (by omega)]
    open_payloads
    pointwise
  case piece1 =>
    have hq' : q = ⟨768 + (x 3).val, by omega⟩ := Fin.ext (by show q.val = 768 + (x 3).val; omega)
    rw [hq', vtAt_val _ _ (y 2) 3 (x 2).val 384 x2_lt (by omega) (by decide) (by omega)]
    open_payloads
    pointwise [rowMul]
  case piece2 =>
    rw [vtAt_one _ _ (y 2) 2 (x 2).val x2_lt (by omega)]
    open_payloads
    pointwise
  case piece3 =>
    have hq' : q = ⟨768 + (x 3).val, by omega⟩ := Fin.ext (by show q.val = 768 + (x 3).val; omega)
    rw [hq', vtAt_val _ _ (y 2) 2 (x 2).val 256 x2_lt (by omega) (by decide) (by omega)]
    open_payloads
    pointwise [rowMul]
  case piece4 =>
    rw [vtAt_one _ _ (y 2) 1 (x 2).val x2_lt (by omega)]
    open_payloads
    pointwise
  case piece5 =>
    have hq' : q = ⟨768 + (x 3).val, by omega⟩ := Fin.ext (by show q.val = 768 + (x 3).val; omega)
    rw [hq', vtAt_val _ _ (y 2) 1 (x 2).val 128 x2_lt (by omega) (by decide) (by omega)]
    open_payloads
    pointwise [rowMul]
  case piece6 =>
    rw [vtAt_one _ _ (y 2) 0 (x 2).val x2_lt (by omega)]
    open_payloads
    pointwise
  case piece7 =>
    have hq' : q = ⟨768 + (x 3).val, by omega⟩ := Fin.ext (by show q.val = 768 + (x 3).val; omega)
    rw [hq', vtAt_val _ _ (y 2) 0 (x 2).val 0 x2_lt (by omega) (by decide) (by omega)]
    open_payloads
    pointwise [rowMul]
  case piece8 =>
    rw [vtAt_one _ _ (y 2) 3 (x 2).val x2_lt (by omega)]
    open_payloads
    pointwise
  case piece9 =>
    have hq' : q = ⟨512 + (x 3).val, by omega⟩ := Fin.ext (by show q.val = 512 + (x 3).val; omega)
    rw [hq', vtAt_val _ _ (y 2) 3 (x 2).val 384 x2_lt (by omega) (by decide) (by omega)]
    open_payloads
    pointwise [rowMul]
  case piece10 =>
    rw [vtAt_one _ _ (y 2) 2 (x 2).val x2_lt (by omega)]
    open_payloads
    pointwise
  case piece11 =>
    have hq' : q = ⟨512 + (x 3).val, by omega⟩ := Fin.ext (by show q.val = 512 + (x 3).val; omega)
    rw [hq', vtAt_val _ _ (y 2) 2 (x 2).val 256 x2_lt (by omega) (by decide) (by omega)]
    open_payloads
    pointwise [rowMul]
  case piece12 =>
    rw [vtAt_one _ _ (y 2) 1 (x 2).val x2_lt (by omega)]
    open_payloads
    pointwise
  case piece13 =>
    have hq' : q = ⟨512 + (x 3).val, by omega⟩ := Fin.ext (by show q.val = 512 + (x 3).val; omega)
    rw [hq', vtAt_val _ _ (y 2) 1 (x 2).val 128 x2_lt (by omega) (by decide) (by omega)]
    open_payloads
    pointwise [rowMul]
  case piece14 =>
    rw [vtAt_one _ _ (y 2) 0 (x 2).val x2_lt (by omega)]
    open_payloads
    pointwise
  case piece15 =>
    have hq' : q = ⟨512 + (x 3).val, by omega⟩ := Fin.ext (by show q.val = 512 + (x 3).val; omega)
    rw [hq', vtAt_val _ _ (y 2) 0 (x 2).val 0 x2_lt (by omega) (by decide) (by omega)]
    open_payloads
    pointwise [rowMul]
  case piece16 =>
    rw [vtAt_one _ _ (y 2) 3 (x 2).val x2_lt (by omega)]
    open_payloads
    pointwise
  case piece17 =>
    have hq' : q = ⟨256 + (x 3).val, by omega⟩ := Fin.ext (by show q.val = 256 + (x 3).val; omega)
    rw [hq', vtAt_val _ _ (y 2) 3 (x 2).val 384 x2_lt (by omega) (by decide) (by omega)]
    open_payloads
    pointwise [rowMul]
  case piece18 =>
    rw [vtAt_one _ _ (y 2) 2 (x 2).val x2_lt (by omega)]
    open_payloads
    pointwise
  case piece19 =>
    have hq' : q = ⟨256 + (x 3).val, by omega⟩ := Fin.ext (by show q.val = 256 + (x 3).val; omega)
    rw [hq', vtAt_val _ _ (y 2) 2 (x 2).val 256 x2_lt (by omega) (by decide) (by omega)]
    open_payloads
    pointwise [rowMul]
  case piece20 =>
    rw [vtAt_one _ _ (y 2) 1 (x 2).val x2_lt (by omega)]
    open_payloads
    pointwise
  case piece21 =>
    have hq' : q = ⟨256 + (x 3).val, by omega⟩ := Fin.ext (by show q.val = 256 + (x 3).val; omega)
    rw [hq', vtAt_val _ _ (y 2) 1 (x 2).val 128 x2_lt (by omega) (by decide) (by omega)]
    open_payloads
    pointwise [rowMul]
  case piece22 =>
    rw [vtAt_one _ _ (y 2) 0 (x 2).val x2_lt (by omega)]
    open_payloads
    pointwise
  case piece23 =>
    have hq' : q = ⟨256 + (x 3).val, by omega⟩ := Fin.ext (by show q.val = 256 + (x 3).val; omega)
    rw [hq', vtAt_val _ _ (y 2) 0 (x 2).val 0 x2_lt (by omega) (by decide) (by omega)]
    open_payloads
    pointwise [rowMul]
  case piece24 =>
    rw [vtAt_one _ _ (y 2) 3 (x 2).val x2_lt (by omega)]
    open_payloads
    pointwise
  case piece25 =>
    have hq' : q = ⟨(x 3).val, by omega⟩ := Fin.ext (by show q.val = (x 3).val; omega)
    rw [hq', vtAt_val _ _ (y 2) 3 (x 2).val 384 x2_lt (by omega) (by decide) (by omega)]
    open_payloads
    pointwise [rowMul]
  case piece26 =>
    rw [vtAt_one _ _ (y 2) 2 (x 2).val x2_lt (by omega)]
    open_payloads
    pointwise
  case piece27 =>
    have hq' : q = ⟨(x 3).val, by omega⟩ := Fin.ext (by show q.val = (x 3).val; omega)
    rw [hq', vtAt_val _ _ (y 2) 2 (x 2).val 256 x2_lt (by omega) (by decide) (by omega)]
    open_payloads
    pointwise [rowMul]
  case piece28 =>
    rw [vtAt_one _ _ (y 2) 1 (x 2).val x2_lt (by omega)]
    open_payloads
    pointwise
  case piece29 =>
    have hq' : q = ⟨(x 3).val, by omega⟩ := Fin.ext (by show q.val = (x 3).val; omega)
    rw [hq', vtAt_val _ _ (y 2) 1 (x 2).val 128 x2_lt (by omega) (by decide) (by omega)]
    open_payloads
    pointwise [rowMul]
  case piece30 =>
    rw [vtAt_one _ _ (y 2) 0 (x 2).val x2_lt (by omega)]
    open_payloads
    pointwise
  case piece31 =>
    have hq' : q = ⟨(x 3).val, by omega⟩ := Fin.ext (by show q.val = (x 3).val; omega)
    rw [hq', vtAt_val _ _ (y 2) 0 (x 2).val 0 x2_lt (by omega) (by decide) (by omega)]
    open_payloads
    pointwise [rowMul]

end Cert.MixIdeal.Block

end
-- ==== Proof.MixOutVB.lean ====
/- Hand-written, untrusted: the mixer's block of transposed values, the other steps. -/
module

public import proofs.«01_k».proof.Proof.Gen.MixIdeal.Value
public import Idealize.ShloMosaic.Lib.Pipeline.ValueKit
public import Idealize.ShloMosaic.Lib.Pipeline.ReadBack
public import proofs.«01_k».proof.Proof.MixMath

@[expose] public section

set_option maxRecDepth 16384

noncomputable section

namespace Cert.MixIdeal.Block

open Cert.MixIdeal Cert.MixIdeal.Gen Cert.FfnMath Cert.MixMath Idealize.ShloMosaic Idealize.ShloMosaic.TcCoe Idealize.SL.Sem

variable (m : (ℓ : Loc nD τ sig) → Buf (Elt Ideal) ℓ)

set_option maxHeartbeats 16000000 in
/-- What the mixer's body leaves in the block of the transposed values, on the other steps. -/
theorem vB (c : Dev nD) (t : Fin cfg0.N) (h : ¬t.val % 4 = 0) (y : S1x4x576x256.Idx) (q : Fin 1024) (hq : q.val = 256 * (y 1).val + (y 3).val) :
    (outsAt0 (F := Ideal) m c t.val t.isLt).2.2.1 y
      = vtAt (fun d => iblk m c 0 t (ix3 0 q d)) (fun k (f : Fin 512) => iblk m c 1 t (ix2 k ⟨1024 + f.val, by omega⟩)) (y 2) := by
  rw [outsAt0_B m c t h]
  frame_open
  frame_out
  canon_tiles x h using View.cover_of_tiledBy _ ![1, 1, 16, 256] (by sl_kernel_rfl) _
  case piece0 =>
    rw [vtAt_one _ _ (y 2) 3 (x 2).val x2_lt (by omega)]
    open_payloads
    pointwise
  case piece1 =>
    have hq' : q = ⟨768 + (x 3).val, by omega⟩ := Fin.ext (by show q.val = 768 + (x 3).val; omega)
    rw [hq', vtAt_val _ _ (y 2) 3 (x 2).val 384 x2_lt (by omega) (by decide) (by omega)]
    open_payloads
    pointwise [rowMul]
  case piece2 =>
    rw [vtAt_one _ _ (y 2) 2 (x 2).val x2_lt (by omega)]
    open_payloads
    pointwise
  case piece3 =>
    have hq' : q = ⟨768 + (x 3).val, by omega⟩ := Fin.ext (by show q.val = 768 + (x 3).val; omega)
    rw [hq', vtAt_val _ _ (y 2) 2 (x 2).val 256 x2_lt (by omega) (by decide) (by omega)]
    open_payloads
    pointwise [rowMul]
  case piece4 =>
    rw [vtAt_one _ _ (y 2) 1 (x 2).val x2_lt (by omega)]
    open_payloads
    pointwise
  case piece5 =>
    have hq' : q = ⟨768 + (x 3).val, by omega⟩ := Fin.ext (by show q.val = 768 + (x 3).val; omega)
    rw [hq', vtAt_val _ _ (y 2) 1 (x 2).val 128 x2_lt (by omega) (by decide) (by omega)]
    open_payloads
    pointwise [rowMul]
  case piece6 =>
    rw [vtAt_one _ _ (y 2) 0 (x 2).val x2_lt (by omega)]
    open_payloads
    pointwise
  case piece7 =>
    have hq' : q = ⟨768 + (x 3).val, by omega⟩ := Fin.ext (by show q.val = 768 + (x 3).val; omega)
    rw [hq', vtAt_val _ _ (y 2) 0 (x 2).val 0 x2_lt (by omega) (by decide) (by omega)]
    open_payloads
    pointwise [rowMul]
  case piece8 =>
    rw [vtAt_one _ _ (y 2) 3 (x 2).val x2_lt (by omega)]
    open_payloads
    pointwise
  case piece9 =>
    have hq' : q = ⟨512 + (x 3).val, by omega⟩ := Fin.ext (by show q.val = 512 + (x 3).val; omega)
    rw [hq', vtAt_val _ _ (y 2) 3 (x 2).val 384 x2_lt (by omega) (by decide) (by omega)]
    open_payloads
    pointwise [rowMul]
  case piece10 =>
    rw [vtAt_one _ _ (y 2) 2 (x 2).val x2_lt (by omega)]
    open_payloads
    pointwise
  case piece11 =>
    have hq' : q = ⟨512 + (x 3).val, by omega⟩ := Fin.ext (by show q.val = 512 + (x 3).val; omega)
    rw [hq', vtAt_val _ _ (y 2) 2 (x 2).val 256 x2_lt (by omega) (by decide) (by omega)]
    open_payloads
    pointwise [rowMul]
  case piece12 =>
    rw [vtAt_one _ _ (y 2) 1 (x 2).val x2_lt (by omega)]
    open_payloads
    pointwise
  case piece13 =>
    have hq' : q = ⟨512 + (x 3).val, by omega⟩ := Fin.ext (by show q.val = 512 + (x 3).val; omega)
    rw [hq', vtAt_val _ _ (y 2) 1 (x 2).val 128 x2_lt (by omega) (by decide) (by omega)]
    open_payloads
    pointwise [rowMul]
  case piece14 =>
    rw [vtAt_one _ _ (y 2) 0 (x 2).val x2_lt (by omega)]
    open_payloads
    pointwise
  case piece15 =>
    have hq' : q = ⟨512 + (x 3).val, by omega⟩ := Fin.ext (by show q.val = 512 + (x 3).val; omega)
    rw [hq', vtAt_val _ _ (y 2) 0 (x 2).val 0 x2_lt (by omega) (by decide) (by omega)]
    open_payloads
    pointwise [rowMul]
  case piece16 =>
    rw [vtAt_one _ _ (y 2) 3 (x 2).val x2_lt (by omega)]
    open_payloads
    pointwise
  case piece17 =>
    have hq' : q = ⟨256 + (x 3).val, by omega⟩ := Fin.ext (by show q.val = 256 + (x 3).val; omega)
    rw [hq', vtAt_val _ _ (y 2) 3 (x 2).val 384 x2_lt (by omega) (by decide) (by omega)]
    open_payloads
    pointwise [rowMul]
  case piece18 =>
    rw [vtAt_one _ _ (y 2) 2 (x 2).val x2_lt (by omega)]
    open_payloads
    pointwise
  case piece19 =>
    have hq' : q = ⟨256 + (x 3).val, by omega⟩ := Fin.ext (by show q.val = 256 + (x 3).val; omega)
    rw [hq', vtAt_val _ _ (y 2) 2 (x 2).val 256 x2_lt (by omega) (by decide) (by omega)]
    open_payloads
    pointwise [rowMul]
  case piece20 =>
    rw [vtAt_one _ _ (y 2) 1 (x 2).val x2_lt (by omega)]
    open_payloads
    pointwise
  case piece21 =>
    have hq' : q = ⟨256 + (x 3).val, by omega⟩ := Fin.ext (by show q.val = 256 + (x 3).val; omega)
    rw [hq', vtAt_val _ _ (y 2) 1 (x 2).val 128 x2_lt (by omega) (by decide) (by omega)]
    open_payloads
    pointwise [rowMul]
  case piece22 =>
    rw [vtAt_one _ _ (y 2) 0 (x 2).val x2_lt (by omega)]
    open_payloads
    pointwise
  case piece23 =>
    have hq' : q = ⟨256 + (x 3).val, by omega⟩ := Fin.ext (by show q.val = 256 + (x 3).val; omega)
    rw [hq', vtAt_val _ _ (y 2) 0 (x 2).val 0 x2_lt (by omega) (by decide) (by omega)]
    open_payloads
    pointwise [rowMul]
  case piece24 =>
    rw [vtAt_one _ _ (y 2) 3 (x 2).val x2_lt (by omega)]
    open_payloads
    pointwise
  case piece25 =>
    have hq' : q = ⟨(x 3).val, by omega⟩ := Fin.ext (by show q.val = (x 3).val; omega)
    rw [hq', vtAt_val _ _ (y 2) 3 (x 2).val 384 x2_lt (by omega) (by decide) (by omega)]
    open_payloads
    pointwise [rowMul]
  case piece26 =>
    rw [vtAt_one _ _ (y 2) 2 (x 2).val x2_lt (by omega)]
    open_payloads
    pointwise
  case piece27 =>
    have hq' : q = ⟨(x 3).val, by omega⟩ := Fin.ext (by show q.val = (x 3).val; omega)
    rw [hq', vtAt_val _ _ (y 2) 2 (x 2).val 256 x2_lt (by omega) (by decide) (by omega)]
    open_payloads
    pointwise [rowMul]
  case piece28 =>
    rw [vtAt_one _ _ (y 2) 1 (x 2).val x2_lt (by omega)]
    open_payloads
    pointwise
  case piece29 =>
    have hq' : q = ⟨(x 3).val, by omega⟩ := Fin.ext (by show q.val = (x 3).val; omega)
    rw [hq', vtAt_val _ _ (y 2) 1 (x 2).val 128 x2_lt (by omega) (by decide) (by omega)]
    open_payloads
    pointwise [rowMul]
  case piece30 =>
    rw [vtAt_one _ _ (y 2) 0 (x 2).val x2_lt (by omega)]
    open_payloads
    pointwise
  case piece31 =>
    have hq' : q = ⟨(x 3).val, by omega⟩ := Fin.ext (by show q.val = (x 3).val; omega)
    rw [hq', vtAt_val _ _ (y 2) 0 (x 2).val 0 x2_lt (by omega) (by decide) (by omega)]
    open_payloads
    pointwise [rowMul]

end Cert.MixIdeal.Block

end
-- ==== Proof.MixArray.lean ====
/- Hand-written, untrusted: the arrays that the mixer's call leaves of queries, keys and transposed values, as functions of the arguments. -/
module

public import proofs.«01_k».proof.Proof.MixWindows
public import proofs.«01_k».proof.Proof.MixOutQ
public import proofs.«01_k».proof.Proof.MixOutK
public import proofs.«01_k».proof.Proof.MixOutVA
public import proofs.«01_k».proof.Proof.MixOutVB

@[expose] public section

set_option maxRecDepth 16384

noncomputable section

namespace Cert.MixIdeal.Block

open Cert.MixIdeal Cert.MixIdeal.Gen Cert.FfnMath Cert.MixMath Idealize.ShloMosaic Idealize.ShloMosaic.TcCoe Idealize.SL.Sem

variable (m : (ℓ : Loc nD τ sig) → Buf (Elt Ideal) ℓ)

/-- The queries as a function of the arguments. -/
def WQ (c : Dev nD) : FVec Ideal S4x4096x512 .bf16 := fun y =>
  qAt (fun i s d => m ((c : Thread nD τ).loc main_arg0) (ix3 i s d)) (fun k f => m ((c : Thread nD τ).loc main_arg1) (ix3 0 k f)) (y 0) (y 1) (y 2)

/-- The keys as a function of the arguments. -/
def WK (c : Dev nD) : FVec Ideal S4x4096x512 .bf16 := fun y =>
  kAt (fun i s d => m ((c : Thread nD τ).loc main_arg0) (ix3 i s d)) (fun k f => m ((c : Thread nD τ).loc main_arg1) (ix3 0 k f)) (y 0) (y 1) (y 2)

/-- The transposed values as a function of the arguments. -/
def WV (c : Dev nD) : FVec Ideal S4x16x576x256 .bf16 := fun y =>
  vAt (fun i s d => m ((c : Thread nD τ).loc main_arg0) (ix3 i s d)) (fun k f => m ((c : Thread nD τ).loc main_arg1) (ix3 0 k f)) (y 0) (y 1) (y 2) (y 3)

/-- What a point writes of the queries is its block of `WQ`. -/
theorem pointQ (c : Dev nD) (t : Fin cfg0.N) (r : Fin 1024) (e : Fin 512) :
    (outsAt0 (F := Ideal) m c t.val t.isLt).1 (ix3 0 r e)
      = WQ m c (ix3 (⟨t.val / 4, by have := lt16 t; omega⟩ : Fin 4) (⟨1024 * (t.val % 4) + r.val, by omega⟩ : Fin 4096) e) := by
  have e0 : (fun d => iblk m c 0 t (ix3 0 r d)) = _ := funext fun d => win0 m c t r d
  have e1 : (fun k (f : Fin 512) => iblk m c 1 t (ix2 k (⟨f.val, by omega⟩ : Fin 3584))) = _ := funext fun k => funext fun f => win1 m c t k _
  have ho : (outsAt0 (F := Ideal) m c t.val t.isLt).1 (ix3 0 r e)
      = rowMul (fun d => iblk m c 0 t (ix3 0 r d)) (fun k (f : Fin 512) => iblk m c 1 t (ix2 k (⟨f.val, by omega⟩ : Fin 3584))) e * Ideal.ofBits .f32 0x3E38AA3B#32 := by
    by_cases h : t.val % 4 = 0
    · exact qA m c t h (ix3 0 r e)
    · exact qB m c t h (ix3 0 r e)
  rw [ho, e0, e1]
  rfl

/-- What a point writes of the keys is its block of `WK`. -/
theorem pointK (c : Dev nD) (t : Fin cfg0.N) (r : Fin 1024) (e : Fin 512) :
    (outsAt0 (F := Ideal) m c t.val t.isLt).2.1 (ix3 0 r e)
      = WK m c (ix3 (⟨t.val / 4, by have := lt16 t; omega⟩ : Fin 4) (⟨1024 * (t.val % 4) + r.val, by omega⟩ : Fin 4096) e) := by
  have e0 : (fun d => iblk m c 0 t (ix3 0 r d)) = _ := funext fun d => win0 m c t r d
  have e1 : (fun k (f : Fin 512) => iblk m c 1 t (ix2 k (⟨512 + f.val, by omega⟩ : Fin 3584))) = _ := funext fun k => funext fun f => win1 m c t k _
  have ho : (outsAt0 (F := Ideal) m c t.val t.isLt).2.1 (ix3 0 r e)
      = rowMul (fun d => iblk m c 0 t (ix3 0 r d)) (fun k (f : Fin 512) => iblk m c 1 t (ix2 k (⟨512 + f.val, by omega⟩ : Fin 3584))) e := by
    by_cases h : t.val % 4 = 0
    · exact kA m c t h (ix3 0 r e)
    · exact kB m c t h (ix3 0 r e)
  rw [ho, e0, e1]
  rfl

/-- What a point writes of the transposed values is its block of `WV`. -/
theorem pointV (c : Dev nD) (t : Fin cfg0.N) (j : Fin 4) (r : Fin 576) (p : Fin 256) :
    (outsAt0 (F := Ideal) m c t.val t.isLt).2.2.1 (ix4 0 j r p)
      = WV m c (ix4 (⟨t.val / 4, by have := lt16 t; omega⟩ : Fin 4) (⟨4 * (t.val % 4) + j.val, by omega⟩ : Fin 16) r p) := by
  have e0 : (fun d => iblk m c 0 t (ix3 0 (⟨256 * j.val + p.val, by omega⟩ : Fin 1024) d)) = _ := funext fun d => win0 m c t _ d
  have e1 : (fun k (f : Fin 512) => iblk m c 1 t (ix2 k (⟨1024 + f.val, by omega⟩ : Fin 3584))) = _ := funext fun k => funext fun f => win1 m c t k _
  have ho : (outsAt0 (F := Ideal) m c t.val t.isLt).2.2.1 (ix4 0 j r p)
      = vtAt (fun d => iblk m c 0 t (ix3 0 (⟨256 * j.val + p.val, by omega⟩ : Fin 1024) d)) (fun k (f : Fin 512) => iblk m c 1 t (ix2 k (⟨1024 + f.val, by omega⟩ : Fin 3584))) r := by
    by_cases h : t.val % 4 = 0
    · exact vA m c t h (ix4 0 j r p) _ rfl
    · exact vB m c t h (ix4 0 j r p) _ rfl
  rw [ho, e0, e1]
  have ei : ∀ s s' : Fin 4096, s = s' → ∀ d, m ((c : Thread nD τ).loc main_arg0) (ix3 (⟨t.val / 4, by have := lt16 t; omega⟩ : Fin 4) s d) = m ((c : Thread nD τ).loc main_arg0) (ix3 (⟨t.val / 4, by have := lt16 t; omega⟩ : Fin 4) s' d) := by
    intro s s' e d
    rw [e]
  refine congrArg (fun z => vtAt z _ r) (funext fun d => ei _ _ (Fin.ext ?_) d)
  show 1024 * (t.val % 4) + (256 * j.val + p.val) = 256 * (4 * (t.val % 4) + j.val) + p.val
  omega

set_option maxHeartbeats 1600000 in
/-- The queries after the run. -/
theorem arrayQ (c : Dev nD) : (dats m 0 c).arrAt 4 cfg0.N = WQ m c := by
  refine (dats m 0 c).arrAt_eq_of_covers 4 _ (by decide +kernel) fun t _ y => ?_
  have ht := lt16 t
  blk_simp
  rw [after0_4]
  idx_vars y
  have h0 : y0 = 0 := Subsingleton.elim _ _
  subst h0
  refine (pointQ m c t _ _).trans (congrArg (WQ m c) ?_)
  blk_ext [idx t]

set_option maxHeartbeats 1600000 in
/-- The keys after the run. -/
theorem arrayK (c : Dev nD) : (dats m 0 c).arrAt 5 cfg0.N = WK m c := by
  refine (dats m 0 c).arrAt_eq_of_covers 5 _ (by decide +kernel) fun t _ y => ?_
  have ht := lt16 t
  blk_simp
  rw [after0_5]
  idx_vars y
  have h0 : y0 = 0 := Subsingleton.elim _ _
  subst h0
  refine (pointK m c t _ _).trans (congrArg (WK m c) ?_)
  blk_ext [idx t]

set_option maxHeartbeats 1600000 in
/-- The transposed values after the run. -/
theorem arrayV (c : Dev nD) : (dats m 0 c).arrAt 6 cfg0.N = WV m c := by
  refine (dats m 0 c).arrAt_eq_of_covers 6 _ (by decide +kernel) fun t _ y => ?_
  have ht := lt16 t
  blk_simp
  rw [after0_6]
  idx_vars y
  have h0 : y0 = 0 := Subsingleton.elim _ _
  subst h0
  refine (pointV m c t _ _ _).trans (congrArg (WV m c) ?_)
  blk_ext [idx t]

end Cert.MixIdeal.Block

end
-- ==== Proof.MixRef.lean ====
/- Hand-written, untrusted: the mixer reference's results as the same functions of the arguments as the kernel's. -/
module

public import proofs.«01_k».proof.Proof.Gen.MixRefIdeal.Read
public import Idealize.ShloMosaic.Lib.Pipeline.ValueKit
public import Idealize.ShloMosaic.Lib.Tactic.CleanTypes
public import proofs.«01_k».proof.Proof.MixMath

@[expose] public section

set_option maxRecDepth 16384

noncomputable section

namespace Cert.MixRefIdeal.Closed

open Cert.MixRefIdeal Cert.MixRefIdeal.Value Cert.MixRefIdeal.Read Cert.FfnMath Cert.MixMath Idealize.ShloMosaic Idealize.ShloMosaic.TcCoe Idealize.SL.Sem

variable (m : (ℓ : Loc nD τ sig) → Buf (Elt Ideal) ℓ)

set_option maxHeartbeats 1600000 in
/-- The projection at an index. -/
theorem proj_apply (x0 : FVec Ideal S4x4096x1024 .f32) (x1 : FVec Ideal S1x1024x5632 .f32) (i : Fin 4) (s : Fin 4096) (e : Fin 5632) :
    val_main_v1 (F := Ideal) x0 x1 (ix3 i s e) = ∑ k, x0 (ix3 i s k) * x1 (ix3 0 k e) := by
  unfold val_main_v1 val_main_v0
  clean_types
  pointwise

set_option maxHeartbeats 1600000 in
/-- The queries. -/
theorem q_apply (x0 : FVec Ideal S4x4096x1024 .f32) (x1 : FVec Ideal S1x1024x5632 .f32) (i : Fin 4) (s : Fin 4096) (e : Fin 512) :
    val_main_v11 (F := Ideal) x0 x1 (ix3 i s e) = qAt (fun i s d => x0 (ix3 i s d)) (fun k f => x1 (ix3 0 k f)) i s e := by
  unfold val_main_v11 val_main_v10 val_main_v9 val_main_cst_0 val_main_v2
  have hp := proj_apply x0 x1
  generalize val_main_v1 (F := Ideal) x0 x1 = z at hp ⊢
  clean_types
  pointwise [qAt, rowMul, hp]

set_option maxHeartbeats 1600000 in
/-- The keys. -/
theorem k_apply (x0 : FVec Ideal S4x4096x1024 .f32) (x1 : FVec Ideal S1x1024x5632 .f32) (i : Fin 4) (s : Fin 4096) (e : Fin 512) :
    val_main_v12 (F := Ideal) x0 x1 (ix3 i s e) = kAt (fun i s d => x0 (ix3 i s d)) (fun k f => x1 (ix3 0 k f)) i s e := by
  unfold val_main_v12 val_main_v3
  have hp := proj_apply x0 x1
  generalize val_main_v1 (F := Ideal) x0 x1 = z at hp ⊢
  clean_types
  pointwise [kAt, rowMul, hp]

set_option maxHeartbeats 1600000 in
/-- The values with the ones beside each head's. -/
theorem cat_apply (x0 : FVec Ideal S4x4096x1024 .f32) (x1 : FVec Ideal S1x1024x5632 .f32) (i : Fin 4) (s : Fin 4096) (hd : Fin 4) (e : Fin 144) :
    val_main_v7 (F := Ideal) x0 x1 (ix4 i s hd e)
      = if h : e.val < 128 then ∑ k, x0 (ix3 i s k) * x1 (ix3 0 k ⟨1024 + (hd.val * 128 + e.val), by omega⟩) else 1 := by
  unfold val_main_v7 val_main_v6 val_main_cst val_main_v5 val_main_v4
  have hp := proj_apply x0 x1
  generalize val_main_v1 (F := Ideal) x0 x1 = z at hp ⊢
  clean_types
  pointwise [hp]

/-- The transposed values. -/
theorem v_apply (x0 : FVec Ideal S4x4096x1024 .f32) (x1 : FVec Ideal S1x1024x5632 .f32) (i : Fin 4) (j : Fin 16) (r : Fin 576) (p : Fin 256) :
    val_main_v14 (F := Ideal) x0 x1 (ix4 i j r p) = vAt (fun i s d => x0 (ix3 i s d)) (fun k f => x1 (ix3 0 k f)) i j r p := by
  have hidx : idx_main_v8 (idx_main_v13 (ix4 i j r p))
      = ix4 i (⟨256 * j.val + p.val, by omega⟩ : Fin 4096) (⟨r.val / 144, by omega⟩ : Fin 4) (⟨r.val % 144, by omega⟩ : Fin 144) := by
    funext a
    match a with
    | ⟨0, _⟩ => exact Fin.ext (by show (((i.val * 16 + j.val) * 256 + p.val) * 576 + r.val) / 2359296 = i.val; omega)
    | ⟨1, _⟩ => exact Fin.ext (by show (((i.val * 16 + j.val) * 256 + p.val) * 576 + r.val) / 576 % 4096 = 256 * j.val + p.val; omega)
    | ⟨2, _⟩ => exact Fin.ext (by show (((i.val * 16 + j.val) * 256 + p.val) * 576 + r.val) / 144 % 4 = r.val / 144; omega)
    | ⟨3, _⟩ => exact Fin.ext (by show (((i.val * 16 + j.val) * 256 + p.val) * 576 + r.val) % 144 = r.val % 144; omega)
  have e : val_main_v14 (F := Ideal) x0 x1 (ix4 i j r p) = val_main_v13 (F := Ideal) x0 x1 (ix4 i j r p) := by
    unfold val_main_v14
    generalize val_main_v13 (F := Ideal) x0 x1 = z
    rfl
  rw [e, val_main_v13_apply, val_main_v8_apply, hidx, cat_apply]
  unfold vAt vtAt rowMul
  by_cases h : r.val % 144 < 128
  · rw [dif_pos h, dif_pos h]
    refine Finset.sum_congr rfl fun k _ => ?_
    refine congrArg (fun f : Fin 5632 => x0 (ix3 i (⟨256 * j.val + p.val, by omega⟩ : Fin 4096) k) * x1 (ix3 0 k f)) (Fin.ext ?_)
    show 1024 + (r.val / 144 * 128 + r.val % 144) = 1024 + (128 * (r.val / 144) + r.val % 144)
    omega
  · rw [dif_neg h, dif_neg h]

end Cert.MixRefIdeal.Closed

end
-- ==== Proof.MixRefArray.lean ====
/- Hand-written, untrusted: the mixer reference's three arrays as functions of the arguments. -/
module

public import proofs.«01_k».proof.Proof.MixRef

@[expose] public section

set_option maxRecDepth 16384

noncomputable section

namespace Cert.MixRefIdeal.Closed

open Cert.MixRefIdeal Cert.MixRefIdeal.Value Cert.MixRefIdeal.Read Cert.FfnMath Cert.MixMath Idealize.ShloMosaic Idealize.ShloMosaic.TcCoe Idealize.SL.Sem

variable (m : (ℓ : Loc nD τ sig) → Buf (Elt Ideal) ℓ)

/-- The queries as a function of the arguments. -/
def WQ (c : Dev nD) : FVec Ideal S4x4096x512 .bf16 := fun y =>
  qAt (fun i s d => m ((c.tc : Thread nD τ).loc main_arg0) (ix3 i s d)) (fun k f => m ((c.tc : Thread nD τ).loc main_arg1) (ix3 0 k f)) (y 0) (y 1) (y 2)

/-- The reference's queries are `WQ`. -/
theorem outQ (c : Dev nD) : val_main_v11 (F := Ideal) (m ((c.tc : Thread nD τ).loc main_arg0)) (m ((c.tc : Thread nD τ).loc main_arg1)) = WQ m c := by
  funext y
  idx_vars y
  exact q_apply _ _ y0 y1 y2

/-- The keys as a function of the arguments. -/
def WK (c : Dev nD) : FVec Ideal S4x4096x512 .bf16 := fun y =>
  kAt (fun i s d => m ((c.tc : Thread nD τ).loc main_arg0) (ix3 i s d)) (fun k f => m ((c.tc : Thread nD τ).loc main_arg1) (ix3 0 k f)) (y 0) (y 1) (y 2)

/-- The reference's keys are `WK`. -/
theorem outK (c : Dev nD) : val_main_v12 (F := Ideal) (m ((c.tc : Thread nD τ).loc main_arg0)) (m ((c.tc : Thread nD τ).loc main_arg1)) = WK m c := by
  funext y
  idx_vars y
  exact k_apply _ _ y0 y1 y2

/-- The transposed values as a function of the arguments. -/
def WV (c : Dev nD) : FVec Ideal S4x16x576x256 .bf16 := fun y =>
  vAt (fun i s d => m ((c.tc : Thread nD τ).loc main_arg0) (ix3 i s d)) (fun k f => m ((c.tc : Thread nD τ).loc main_arg1) (ix3 0 k f)) (y 0) (y 1) (y 2) (y 3)

/-- The reference's transposed values are `WV`. -/
theorem outV (c : Dev nD) : val_main_v14 (F := Ideal) (m ((c.tc : Thread nD τ).loc main_arg0)) (m ((c.tc : Thread nD τ).loc main_arg1)) = WV m c := by
  funext y
  idx_vars y
  exact v_apply _ _ y0 y1 y2 y3

end Cert.MixRefIdeal.Closed

end
-- ==== Proof.MixAlg.lean ====
/- Hand-written, untrusted: the mixer's call and its reference, run from memories that agree, end with equal queries, keys and values. -/
module

public import proofs.«01_k».proof.Defs
public import proofs.«01_k».proof.Proof.MixArray
public import proofs.«01_k».proof.Proof.MixRefArray

@[expose] public section

noncomputable section

namespace Cert.MixEq

open Idealize.ShloMosaic Idealize.ShloMosaic.TcCoe Idealize.SL.Sem

/-- From memories that agree on the arguments the queries are the same array. -/
theorem WQ_eq (m : (ℓ : Loc Cert.MixIdeal.nD Cert.MixIdeal.τ Cert.MixIdeal.sig) → Buf (Elt Ideal) ℓ) (m' : (ℓ : Loc Cert.MixRefIdeal.nD Cert.MixRefIdeal.τ Cert.MixRefIdeal.sig) → Buf (Elt Ideal) ℓ) (c : Dev Cert.MixIdeal.nD)
    (e0 : m' ((c.tc : Thread Cert.MixRefIdeal.nD Cert.MixRefIdeal.τ).loc Cert.MixRefIdeal.main_arg0) = m ((c.tc : Thread Cert.MixIdeal.nD Cert.MixIdeal.τ).loc Cert.MixIdeal.main_arg0)) (e1 : m' ((c.tc : Thread Cert.MixRefIdeal.nD Cert.MixRefIdeal.τ).loc Cert.MixRefIdeal.main_arg1) = m ((c.tc : Thread Cert.MixIdeal.nD Cert.MixIdeal.τ).loc Cert.MixIdeal.main_arg1)) :
    Cert.MixRefIdeal.Closed.WQ m' c = Cert.MixIdeal.Block.WQ m c := by
  unfold Cert.MixRefIdeal.Closed.WQ Cert.MixIdeal.Block.WQ
  rw [e0, e1]

/-- From memories that agree on the arguments the keys are the same array. -/
theorem WK_eq (m : (ℓ : Loc Cert.MixIdeal.nD Cert.MixIdeal.τ Cert.MixIdeal.sig) → Buf (Elt Ideal) ℓ) (m' : (ℓ : Loc Cert.MixRefIdeal.nD Cert.MixRefIdeal.τ Cert.MixRefIdeal.sig) → Buf (Elt Ideal) ℓ) (c : Dev Cert.MixIdeal.nD)
    (e0 : m' ((c.tc : Thread Cert.MixRefIdeal.nD Cert.MixRefIdeal.τ).loc Cert.MixRefIdeal.main_arg0) = m ((c.tc : Thread Cert.MixIdeal.nD Cert.MixIdeal.τ).loc Cert.MixIdeal.main_arg0)) (e1 : m' ((c.tc : Thread Cert.MixRefIdeal.nD Cert.MixRefIdeal.τ).loc Cert.MixRefIdeal.main_arg1) = m ((c.tc : Thread Cert.MixIdeal.nD Cert.MixIdeal.τ).loc Cert.MixIdeal.main_arg1)) :
    Cert.MixRefIdeal.Closed.WK m' c = Cert.MixIdeal.Block.WK m c := by
  unfold Cert.MixRefIdeal.Closed.WK Cert.MixIdeal.Block.WK
  rw [e0, e1]

/-- From memories that agree on the arguments the transposed values are the same array. -/
theorem WV_eq (m : (ℓ : Loc Cert.MixIdeal.nD Cert.MixIdeal.τ Cert.MixIdeal.sig) → Buf (Elt Ideal) ℓ) (m' : (ℓ : Loc Cert.MixRefIdeal.nD Cert.MixRefIdeal.τ Cert.MixRefIdeal.sig) → Buf (Elt Ideal) ℓ) (c : Dev Cert.MixIdeal.nD)
    (e0 : m' ((c.tc : Thread Cert.MixRefIdeal.nD Cert.MixRefIdeal.τ).loc Cert.MixRefIdeal.main_arg0) = m ((c.tc : Thread Cert.MixIdeal.nD Cert.MixIdeal.τ).loc Cert.MixIdeal.main_arg0)) (e1 : m' ((c.tc : Thread Cert.MixRefIdeal.nD Cert.MixRefIdeal.τ).loc Cert.MixRefIdeal.main_arg1) = m ((c.tc : Thread Cert.MixIdeal.nD Cert.MixIdeal.τ).loc Cert.MixIdeal.main_arg1)) :
    Cert.MixRefIdeal.Closed.WV m' c = Cert.MixIdeal.Block.WV m c := by
  unfold Cert.MixRefIdeal.Closed.WV Cert.MixIdeal.Block.WV
  rw [e0, e1]

/-- The mixer's reference runs, keeps its arguments and leaves every counter at zero. -/
theorem frameRef : Cert.quiescent_MixRefIdeal (hMixRefIdeal := Cert.MixRefIdeal.Gen.facts) := fun m ρ _ =>
  (θ_run Cert.MixRefIdeal.defs _ _).mono (fun r h => ⟨fun c => (h c).2.2.2, Idealize.ShloMosaic.sem_eq_zero_of_no_sems (by decide) r.2⟩)
    (Cert.MixRefIdeal.Value.run (F := Ideal) m ρ)

/-- The mixer's call computes the queries, keys and transposed values that its reference computes, at every argument. -/
theorem algebraic : Cert.algebraic_MixIdeal_MixRefIdeal (hMixIdeal := Cert.MixIdeal.Gen.facts) (hMixRefIdeal := Cert.MixRefIdeal.Gen.facts) := by
  intro m g m' g' _ hag
  refine ⟨fun c => Cert.MixIdeal.Block.WQ m c, fun c => Cert.MixIdeal.Block.WK m c, fun c => Cert.MixIdeal.Block.WV m c, ?_, ?_⟩
  · refine (θ_run _ _ _).mono (fun r h c => ?_) (Cert.MixIdeal.Value.run_blocks (F := Ideal) m g)
    obtain ⟨h0, h1, h2, _, h3⟩ := h c
    exact ⟨h0.trans (Cert.MixIdeal.Block.arrayQ m c), h1.trans (Cert.MixIdeal.Block.arrayK m c), h2.trans (Cert.MixIdeal.Block.arrayV m c), h3⟩
  · refine (θ_run _ _ _).mono (fun r h c => ?_) (Cert.MixRefIdeal.Value.run (F := Ideal) m' g')
    obtain ⟨e0, e1, _, _⟩ := hag c
    obtain ⟨h0, h1, h2, h3⟩ := h c
    exact ⟨h0.trans ((Cert.MixRefIdeal.Read.val_main_v11_eq _ _).trans ((Cert.MixRefIdeal.Closed.outQ m' c).trans (WQ_eq m m' c e0 e1))), h1.trans ((Cert.MixRefIdeal.Read.val_main_v12_eq _ _).trans ((Cert.MixRefIdeal.Closed.outK m' c).trans (WK_eq m m' c e0 e1))),
      h2.trans ((Cert.MixRefIdeal.Read.val_main_v14_eq _ _).trans ((Cert.MixRefIdeal.Closed.outV m' c).trans (WV_eq m m' c e0 e1))), h3⟩

end Cert.MixEq

end
-- ==== Proof.lean ====
/- Hand-written, untrusted: the certificate's claim, assembled. Each kernel's frame is the generated one; each host reference's frame
   is its generated run, read at the arguments: a host program declares no semaphore. -/
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Mix.Frame
public import proofs.«01_k».proof.Proof.Gen.MixIdeal.Frame
public import proofs.«01_k».proof.Proof.MergeAlg
public import proofs.«01_k».proof.Proof.FfnAlg
public import proofs.«01_k».proof.Proof.MixAlg

@[expose] public section

noncomputable section

namespace Cert.Proof

open Idealize.ShloMosaic Idealize.SL.Sem

/-- The feed-forward reference runs, keeps its arguments and leaves every counter at zero. -/
theorem frameFfnRef : Cert.quiescent_FfnRefIdeal (hFfnRefIdeal := Cert.FfnRefIdeal.Gen.facts) := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The merge reference runs, keeps its arguments and leaves every counter at zero. -/
theorem frameMergeRef : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The mixer's idealised program differs from it in one constant, which is within the bound that its rule states. -/
theorem preservesMix : Cert.preserves_Mix_MixIdeal :=
  IdealRules.named_const.statement Cert.MixIdeal.κ "log2e" .f32 0x3FB8AA3B#32 (((Real.log 2)⁻¹ : ℝ) : EReal) rfl

/-- The certificate's claim. -/
theorem claim : Cert.Claim :=
  ⟨Cert.Ffn.Gen.facts, Cert.FfnIdeal.Gen.facts, Cert.FfnRefIdeal.Gen.facts, Cert.Merge.Gen.facts, Cert.MergeIdeal.Gen.facts, Cert.MergeRefIdeal.Gen.facts, Cert.Mix.Gen.facts, Cert.MixIdeal.Gen.facts, Cert.MixRefIdeal.Gen.facts,
    fun m ρ _ => Cert.Ffn.Gen.frame m ρ,
    fun m ρ _ => Cert.FfnIdeal.Gen.frame m ρ,
    frameFfnRef,
    fun m ρ _ => Cert.Merge.Gen.frame m ρ,
    fun m ρ _ => Cert.MergeIdeal.Gen.frame m ρ,
    frameMergeRef,
    fun m ρ _ => Cert.Mix.Gen.frame m ρ,
    fun m ρ _ => Cert.MixIdeal.Gen.frame m ρ,
    Cert.MixEq.frameRef,
    trivial, Cert.FfnEq.algebraic,
    trivial, Cert.MergeEq.algebraic,
    preservesMix, Cert.MixEq.algebraic⟩

end Cert.Proof

end
